-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![4096, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S256x256 : Shape := ⟨2, ![256, 256]⟩
abbrev S4x272x256 : Shape := ⟨3, ![4, 272, 256]⟩
abbrev S3 : Shape := ⟨1, ![3]⟩
abbrev S2 : Shape := ⟨1, ![2]⟩
abbrev S1 : Shape := ⟨1, ![1]⟩
abbrev S_ : Shape := ⟨0, ![]⟩
abbrev S1x256x256 : Shape := ⟨3, ![1, 256, 256]⟩
abbrev S1x256 : Shape := ⟨2, ![1, 256]⟩
abbrev S1x1x256 : Shape := ⟨3, ![1, 1, 256]⟩
abbrev S1x2x256 : Shape := ⟨3, ![1, 2, 256]⟩
abbrev S1x272x256 : Shape := ⟨3, ![1, 272, 256]⟩
abbrev S272x256 : Shape := ⟨2, ![272, 256]⟩
abbrev S1x32 : Shape := ⟨2, ![1, 32]⟩
abbrev S256x32 : Shape := ⟨2, ![256, 32]⟩
abbrev S32 : Shape := ⟨1, ![32]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x32, .bf16⟩
  | .local _ .vmem, ⟨2, _⟩ => ⟨S256x1, .i32⟩
  | .local _ .vmem, ⟨3, _⟩ => ⟨S2x128x256, .bf16⟩
  | .local _ .vmem, ⟨4, _⟩ => ⟨S256x256, .f32⟩
  | .local _ .vmem, ⟨5, _⟩ => ⟨S4x272x256, .bf16⟩
  | .local _ .vmem, ⟨6, _⟩ => ⟨S4x272x256, .bf16⟩
  | .local _ .vmem, ⟨7, _⟩ => ⟨S4x272x256, .bf16⟩
  | .local _ .vmem, ⟨8, _⟩ => ⟨S4x272x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v9 : BitVec 32 := Scalar.addi v2 c15_i32
  let c16_i32_5 : BitVec 32 := 16#32
  let v10 : BitVec 32 := Scalar.remsi v9 c16_i32_5
  let c1_i32_7 : BitVec 32 := 1#32
  let v11 : BitVec 32 := Scalar.muli v10 c1_i32_7
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8 : BitVec 32 := 1#32
  let v13 : BitVec 32 := Scalar.addi v2 c1_i32_8
  let c16_i32_9 : BitVec 32 := 16#32
  let v14 : BitVec 32 := Scalar.remsi v13 c16_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_13 : BitVec 32 := 16#32
  let v18 : BitVec 32 := Scalar.remsi v17 c16_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v21 : BitVec 32 := Scalar.addi v2 c4_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v25 : BitVec 32 := Scalar.addi v2 c8_i32
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v29 : BitVec 32 := Scalar.addi v2 c12_i32
  let c16_i32_25 : BitVec 32 := 16#32
  let v30 : BitVec 32 := Scalar.remsi v29 c16_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_40 : BitVec 32 := 4#32
  let v48 : BitVec 32 := Scalar.addi v2 c4_i32_40
  let c16_i32_41 : BitVec 32 := 16#32
  let v49 : BitVec 32 := Scalar.remsi v48 c16_i32_41
  let c1_i32_45 : BitVec 32 := 1#32
  let v50 : BitVec 32 := Scalar.muli v49 c1_i32_45
  let v51 : BitVec 32 := Scalar.addi c0_i32_46 v50
  v51.toNat
def k0_dev8 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_51 : BitVec 32 := 8#32
  let v60 : BitVec 32 := Scalar.addi v2 c8_i32_51
  let c16_i32_52 : BitVec 32 := 16#32
  let v61 : BitVec 32 := Scalar.remsi v60 c16_i32_52
  let c1_i32_57 : BitVec 32 := 1#32
  let v62 : BitVec 32 := Scalar.muli v61 c1_i32_57
  let v63 : BitVec 32 := Scalar.addi c0_i32_58 v62
  v63.toNat
def k0_dev9 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_63 : BitVec 32 := 12#32
  let v72 : BitVec 32 := Scalar.addi v2 c12_i32_63
  let c16_i32_64 : BitVec 32 := 16#32
  let v73 : BitVec 32 := Scalar.remsi v72 c16_i32_64
  let c1_i32_69 : BitVec 32 := 1#32
  let v74 : BitVec 32 := Scalar.muli v73 c1_i32_69
  let v75 : BitVec 32 := Scalar.addi c0_i32_70 v74
  v75.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_119 : BitVec 32 := 1#32
  let v148 : BitVec 32 := Scalar.muli v7 c1_i32_119
  let v149 : BitVec 32 := Scalar.addi c0_i32_120 v148
  v149.toNat
def k0_dev11 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_123 : BitVec 32 := 1#32
  let v154 : BitVec 32 := Scalar.muli v5 c1_i32_123
  let v155 : BitVec 32 := Scalar.addi c0_i32_124 v154
  v155.toNat
def k0_dev12 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_115 : BitVec 32 := 2#32
  let v146 : BitVec 32 := Scalar.addi v2 c2_i32_115
  let c16_i32_116 : BitVec 32 := 16#32
  let v147 : BitVec 32 := Scalar.remsi v146 c16_i32_116
  let c1_i32_127 : BitVec 32 := 1#32
  let v160 : BitVec 32 := Scalar.muli v147 c1_i32_127
  let v161 : BitVec 32 := Scalar.addi c0_i32_128 v160
  v161.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x128 : Shape := ⟨2, ![4096, 128]⟩
abbrev S128x32 : Shape := ⟨2, ![128, 32]⟩
abbrev S4096x1 : Shape := ⟨2, ![4096, 1]⟩
abbrev S32x128x256 : Shape := ⟨3, ![32, 128, 256]⟩
abbrev S32 : Shape := ⟨1, ![32]⟩
abbrev S1x32 : Shape := ⟨2, ![1, 32]⟩
abbrev S4096x32 : Shape := ⟨2, ![4096, 32]⟩
abbrev S_ : Shape := ⟨0, ![]⟩
abbrev S4096 : Shape := ⟨1, ![4096]⟩
abbrev S4096x32x256 : Shape := ⟨3, ![4096, 32, 256]⟩
abbrev S4096x32x1 : Shape := ⟨3, ![4096, 32, 1]⟩
abbrev S4096x256 : Shape := ⟨2, ![4096, 256]⟩

abbrev nBuf : Space → Nat
  | .hbm => 40
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x32, .bf16⟩
  | .hbm, ⟨2, _⟩ => ⟨S4096x1, .i32⟩
  | .hbm, ⟨3, _⟩ => ⟨S32x128x256, .bf16⟩
  | .hbm, ⟨4, _⟩ => ⟨S32, .i32⟩
  | .hbm, ⟨5, _⟩ => ⟨S1x32, .i32⟩
  | .hbm, ⟨6, _⟩ => ⟨S4096x32, .i32⟩
  | .hbm, ⟨7, _⟩ => ⟨S4096x32, .i32⟩
  | .hbm, ⟨8, _⟩ => ⟨S4096x32, .i1⟩
  | .hbm, ⟨9, _⟩ => ⟨S4096x32, .i32⟩
  | .hbm, ⟨10, _⟩ => ⟨S_, .i32⟩
  | .hbm, ⟨11, _⟩ => ⟨S_, .i32⟩
  | .hbm, ⟨12, _⟩ => ⟨S4096x32, .i32⟩
  | .hbm, ⟨13, _⟩ => ⟨S4096x32, .i32⟩
  | .hbm, ⟨14, _⟩ => ⟨S_, .i32⟩
  | .hbm, ⟨15, _⟩ => ⟨S_, .i32⟩
  | .hbm, ⟨16, _⟩ => ⟨S4096x32, .i32⟩
  | .hbm, ⟨17, _⟩ => ⟨S4096x32, .i32⟩
  | .hbm, ⟨18, _⟩ => ⟨S_, .i32⟩
  | .hbm, ⟨19, _⟩ => ⟨S4096, .i32⟩
  | .hbm, ⟨20, _⟩ => ⟨S4096x1, .i32⟩
  | .hbm, ⟨21, _⟩ => ⟨S4096x128, .f32⟩
  | .hbm, ⟨22, _⟩ => ⟨S32x128x256, .f32⟩
  | .hbm, ⟨23, _⟩ => ⟨S4096x32x256, .f32⟩
  | .hbm, ⟨24, _⟩ => ⟨S4096x32x1, .i1⟩
  | .hbm, ⟨25, _⟩ => ⟨S_, .f32⟩
  | .hbm, ⟨26, _⟩ => ⟨S_, .f32⟩
  | .hbm, ⟨27, _⟩ => ⟨S4096x32x256, .i1⟩
  | .hbm, ⟨28, _⟩ => ⟨S4096x32x256, .f32⟩
  | .hbm, ⟨29, _⟩ => ⟨S4096x32x256, .f32⟩
  | .hbm, ⟨30, _⟩ => ⟨S_, .f32⟩
  | .hbm, ⟨31, _⟩ => ⟨S4096x256, .f32⟩
  | .hbm, ⟨32, _⟩ => ⟨S_, .i32⟩
  | .hbm, ⟨33, _⟩ => ⟨S4096x1, .i32⟩
  | .hbm, ⟨34, _⟩ => ⟨S4096x1, .i1⟩
  | .hbm, ⟨35, _⟩ => ⟨S_, .f32⟩
  | .hbm, ⟨36, _⟩ => ⟨S_, .f32⟩
  | .hbm, ⟨37, _⟩ => ⟨S4096x256, .i1⟩
  | .hbm, ⟨38, _⟩ => ⟨S4096x256, .f32⟩
  | .hbm, ⟨39, _⟩ => ⟨S4096x256, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call1_v0 : Ref sig .tc := ⟨.hbm, 15, rfl⟩
abbrev main_call1_v1 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Proof.Proto.lean ====
/-
# 01_k — `Proto`: the routed expert layer's communication protocol

Sixteen devices on a ring. Every device stages its two experts and the experts its own tokens are routed to in slot 0 of
its assembly buffer, sends that slot to the three devices at distance 4, 8 and 12 (which land it in slot 3, 2 or 1 of
theirs), and then sends the assembled four slots to the devices at distance 1, −1 and 2. A device therefore ends up
with the blocks of all sixteen: its own assembly buffer holds those at distance 0, 4, 8, 12, and the three landing
buffers those at the same distances from its neighbours at −1, 1 and −2.

Before any transfer each device signals six others on the runtime's barrier semaphore. What each signal hands over is
the buffer (or slot) the receiver of the signal will later write: the landing buffers to the two neighbours, the three
assembly slots to the devices at distance 4, 8 and 12. The buffer the device at distance 2 fills takes one more step:
the transfers go at distance 2 forwards, but the signal also goes forwards, so the receiver of that signal passes the
buffer on with its transfer at distance 12, which lands exactly at the device that fills it.

This module states that protocol for the rounds library: the cells, what each duty carries, the order in which they are
paid, the levels that make the waits well founded.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring.Trips
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

/-! ## The resources: the pipeline library's and the protocol's (duties numbered 0 to 5) -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The devices -/

set_option backward.proofsInPublic true in
/-- The device `k` places further round the ring. -/
def sh (k : ℕ) (c : Dev nD) : Dev nD := ⟨(c.val + k) % 16, Nat.mod_lt _ (by decide)⟩

/-- Moving by no place stays. -/
theorem sh_zero (c : Dev nD) : sh 0 c = c := Fin.ext (Nat.mod_eq_of_lt c.isLt)

/-- Two moves are one move by the sum. -/
theorem sh_sh (a b : ℕ) (c : Dev nD) : sh a (sh b c) = sh (b + a) c := Fin.ext (by simp only [sh]; omega)

/-- A whole turn is no move. -/
theorem sh_turn (k n : ℕ) (h : k % 16 = n % 16) (c : Dev nD) : sh k c = sh n c := Fin.ext (by simp only [sh]; omega)

/-- Moving on and then the rest of the way round comes back. -/
theorem sh_back (k : ℕ) (hk : k ≤ 16) (c : Dev nD) : sh (16 - k) (sh k c) = c := by
  rw [sh_sh, sh_turn _ 0 (by omega), sh_zero]
/-- Moving the rest of the way round and then on comes back. -/
theorem sh_forth (k : ℕ) (hk : k ≤ 16) (c : Dev nD) : sh k (sh (16 - k) c) = c := by
  rw [sh_sh, sh_turn _ 0 (by omega), sh_zero]

/-! ## The buffers -/

abbrev asmM : Memref sig .tc .vmem S4x272x256 .bf16 := Memref.whole cc0_scratch0
abbrev cw1M : Memref sig .tc .vmem S4x272x256 .bf16 := Memref.whole cc0_scratch1
abbrev cw2M : Memref sig .tc .vmem S4x272x256 .bf16 := Memref.whole cc0_scratch2
abbrev ccwM : Memref sig .tc .vmem S4x272x256 .bf16 := Memref.whole cc0_scratch3

/-- The slot at a number, as the transfers name it. -/
abbrev slotN (n : ℕ) (h : ∀ x, (![n, 0, 0] : Fin 3 → ℕ) x + S1x272x256.size x ≤ S4x272x256.size x) : Memref sig .tc .vmem S272x256 .bf16 :=
  (asmM.slice (Rect.unit (s := S4x272x256) ![n, 0, 0] S1x272x256.size h) (fun _ => rfl)).squeeze S272x256 squeezes_S1x272x256_S272x256

/-- The elements of slot `j`. -/
def slotSet (j : Fin 4) : Finset S4x272x256.Idx := Finset.univ.filter fun i => (i 0).val = j.val

/-- A cell lies in slot `j` just when its first coordinate is `j`. -/
theorem mem_slotSet {j : Fin 4} {i : S4x272x256.Idx} : i ∈ slotSet j ↔ (i 0).val = j.val := by
  simp [slotSet]

/-! ## The cells -/

/-- The runtime's barrier semaphore. -/
abbrev barS : Sem sig := (SemArray.scalar (sig.barrier 0 rfl) : Sems sig S_).sem

/-- The thirteen semaphores of a device: the barrier; the three send and three receive semaphores of the first phase (5 to
    10); the two clockwise send and two clockwise receive semaphores (11 to 14), the other direction's two (15 and 16). -/
abbrev csem : Fin 13 → SemLoc sig := fun k =>
  if k.val = 0 then .reg barS else .dma ⟨k.val + 4, by have := k.isLt; show k.val + 4 < 17; omega⟩

abbrev kcell (c : Dev nD) (k : Fin 13) : GSem nD τ sig := ((c : Thread nD τ), csem k)

/-- The number of a semaphore among the thirteen. -/
def semIx : SemLoc sig → Option (Fin 13)
  | .reg _ => some 0
  | .dma q => if h : 5 ≤ q.val then some ⟨q.val - 4, by have h17 : q.val < 17 := q.isLt; omega⟩ else none

/-- The thirteen semaphores are numbered as listed. -/
theorem semIx_csem (k : Fin 13) : semIx (csem k) = some k := by revert k; decide

/-- The credit of a one-slot transfer and of a whole-buffer transfer. -/
abbrev NS : ℕ := (slotN 0 inb_S4x272x256_S1x272x256_0_0_0).view.dmaCredit
abbrev NW : ℕ := asmM.view.dmaCredit
/-- A slot's copy credits something. -/
theorem NS_pos : 0 < NS := View.dmaCredit_pos _ (by decide)
/-- A whole buffer's copy credits something. -/
theorem NW_pos : 0 < NW := View.dmaCredit_pos _ (by decide)

/-- What one payment to cell `k` adds to its counter. -/
def amt (k : Fin 13) : ℕ := if k.val = 0 then 1 else if k.val ≤ 6 then NS else NW
/-- Every payment adds something. -/
theorem amt_pos (k : Fin 13) : 0 < amt k := by
  unfold amt; split
  · exact Nat.one_pos
  · split
    · exact NS_pos
    · exact NW_pos

/-! ## Contents -/

/-- What the pipeline stages on device `c`: its tokens, the router weights, its tokens' experts, its two experts' weights. -/
def xstg (c : Dev nD) : (cc0_stg0_0 : Ref sig .tc).ty.Contents (Elt F) :=
  (win0_0.blk (0 : Fin 1)).view.read (Elt F) ((s₀ m ρ).mem ((c : Thread nD τ).loc main_arg0))
def rtr (c : Dev nD) : (cc0_stg1_0 : Ref sig .tc).ty.Contents (Elt F) :=
  (win0_1.blk (0 : Fin 1)).view.read (Elt F) ((s₀ m ρ).mem ((c : Thread nD τ).loc main_arg1))
def rstg (c : Dev nD) : (cc0_stg2_0 : Ref sig .tc).ty.Contents (Elt F) :=
  (win0_2.blk (0 : Fin 1)).view.read (Elt F) ((s₀ m ρ).mem ((c : Thread nD τ).loc main_arg2))
def wstg (c : Dev nD) : (cc0_stg3_0 : Ref sig .tc).ty.Contents (Elt F) :=
  (win0_3.blk (0 : Fin 1)).view.read (Elt F) ((s₀ m ρ).mem ((c : Thread nD τ).loc main_arg3))

/-- What device `c` stores in rows 0 to 255 of its slot 0, and in row 256. -/
abbrev wrow (c : Dev nD) : Vec F S1x256x256 .bf16 := k0_pay4 (wstg m ρ c)
abbrev rrow (c : Dev nD) : Vec F S1x1x256 .bf16 := k0_pay5 (rstg m ρ c)

set_option backward.proofsInPublic true in
/-- Row `r` of what device `c` sends: the two experts' rows and then the routes. -/
def sent (c : Dev nD) (r : Fin 272) (h : Fin 256) : F .bf16 :=
  if hr : r.val < 256 then wrow m ρ c (fun | 0 => ⟨0, by decide⟩ | 1 => ⟨r.val, hr⟩ | 2 => h)
  else rrow m ρ c (fun | 0 => ⟨0, by decide⟩ | 1 => ⟨0, by decide⟩ | 2 => h)

/-- Slot `j` of a four-slot buffer holds what device `c` sends (rows 257 to 271 are never written and never read). -/
def Good (c : Dev nD) (j : Fin 4) (f : S4x272x256.Idx → F .bf16) : Prop :=
  ∀ i : S4x272x256.Idx, (i 0).val = j.val → (i 1).val ≤ 256 → f i = sent m ρ c (i 1) (i 2)

/-- All four slots hold what the devices at distance 0, 4, 8 and 12 from `c` send. -/
def Good4 (c : Dev nD) (f : S4x272x256.Idx → F .bf16) : Prop := ∀ j : Fin 4, Good m ρ (sh (4 * j.val) c) j f

/-! ## Resources held -/

/-- A whole buffer of device `c`, at a share. -/
abbrev bufPts (c : Dev nD) (b : Ref sig .tc) (q : PosShare TreeShare) (f : Buf (Elt F) ((c : Thread nD τ).loc b)) : sProp 𝕄 :=
  ((c : Thread nD τ).loc b) ↦{q} f

/-- Slot `j` of device `c`'s assembly buffer, at a share. -/
abbrev slotPts (c : Dev nD) (j : Fin 4) (q : PosShare TreeShare) (f : Buf (Elt F) ((c : Thread nD τ).loc cc0_scratch0)) : sProp 𝕄 :=
  ((c : Thread nD τ).loc cc0_scratch0) ↦[slotSet j]{q} f

/-- The shares lent to the three first-phase sends and to the three second-phase sends. -/
abbrev shA (s : Fin 3) : PosShare TreeShare := shares3 (fullShare : PosShare TreeShare).left s
abbrev shB (s : Fin 3) : PosShare TreeShare := shares3 (fullShare : PosShare TreeShare).right s

/-! ## The schedule -/

/-- What the six barrier signals to device `c` hand it. -/
def barPay (c : Dev nD) : Fin 6 → sProp 𝕄
  | 0 => iprop(∃ f, bufPts (sh 1 c) cc0_scratch1 fullShare f)
  | 1 => iprop(∃ f, bufPts (sh 15 c) cc0_scratch3 fullShare f)
  | 2 => iprop(∃ f, bufPts (sh 14 c) cc0_scratch2 fullShare f)
  | 3 => iprop(∃ f, slotPts (sh 12 c) 1 fullShare f)
  | 4 => iprop(∃ f, slotPts (sh 8 c) 2 fullShare f)
  | 5 => iprop(∃ f, slotPts (sh 4 c) 3 fullShare f)

/-- A slot landed: what the device `4 * j` places on sends. -/
def landed (c : Dev nD) (j : Fin 4) : sProp 𝕄 := iprop(∃ f, ⌜Good m ρ (sh (4 * j.val) c) j f⌝ ∗ slotPts c j fullShare f)

/-- The payload of cell `k` of device `c`, by duty. -/
def cpay (c : Dev nD) (k : Fin 13) (d : Fin 6) : sProp 𝕄 :=
  match k with
  | 0 => barPay c d
  | 1 => iprop(∃ f, slotPts c 0 (shA 0) f)
  | 2 => iprop(∃ f, slotPts c 0 (shA 1) f)
  | 3 => iprop(∃ f, slotPts c 0 (shA 2) f)
  | 4 => iprop(landed m ρ c 1 ∗ ∃ f, bufPts (sh 2 c) cc0_scratch2 fullShare f)
  | 5 => landed m ρ c 2
  | 6 => landed m ρ c 3
  | 7 => iprop(∃ f, bufPts c cc0_scratch0 (shB 0) f)
  | 8 => iprop(∃ f, bufPts c cc0_scratch0 (shB 1) f)
  | 9 => iprop(∃ f, ⌜Good4 m ρ (sh 15 c) f⌝ ∗ bufPts c cc0_scratch1 fullShare f)
  | 10 => iprop(∃ f, ⌜Good4 m ρ (sh 14 c) f⌝ ∗ bufPts c cc0_scratch2 fullShare f)
  | 11 => iprop(∃ f, bufPts c cc0_scratch0 (shB 2) f)
  | 12 => iprop(∃ f, ⌜Good4 m ρ (sh 1 c) f⌝ ∗ bufPts c cc0_scratch3 fullShare f)

instance cpay_storable (c : Dev nD) (k : Fin 13) (d : Fin 6) : BI.Storable (upEmb : UEmb _ 𝕄) (cpay m ρ c k d) := by
  fin_cases k <;> first
    | (show BI.Storable upEmb (barPay c d); fin_cases d <;> (unfold barPay; infer_instance))
    | (unfold cpay landed; infer_instance)
    | (unfold cpay; infer_instance)

/-- One round: a barrier cell has six duties of one unit, every other cell of the thirteen one duty of its transfer's credit. -/
def sched : Rounds.Schedule (GSem nD τ sig) (Fin 6) 𝕄 where
  duties g r := if r = 0 ∧ g.1.2 = .tc then
      (match semIx g.2 with | some k => if k.val = 0 then Finset.univ else {0} | none => ∅) else ∅
  unitless _ := False
  amount g _ _ := match semIx g.2 with | some k => amt k | none => 1
  payload g _ d := match semIx g.2 with | some k => cpay m ρ g.1.1 k d | none => iprop(emp)
  amount_pos g _ _ _ := by
    cases semIx g.2 with
    | none => exact Nat.one_pos
    | some k => exact amt_pos k

instance sched_storable (g : GSem nD τ sig) (r : ℕ) (d : Fin 6) :
    BI.Storable (upEmb : UEmb _ 𝕄) ((sched (F := F) m ρ).payload g r d) := by
  show BI.Storable upEmb (match semIx g.2 with | some k => cpay m ρ g.1.1 k d | none => iprop(emp))
  cases semIx g.2 <;> infer_instance

/-- The barrier cell has six payments in its only round. -/
theorem duties_bar (c : Dev nD) : (sched (F := F) m ρ).duties (kcell c 0) 0 = Finset.univ := by
  simp only [sched]; rfl
/-- Every other cell has one payment in its only round. -/
theorem duties_one (c : Dev nD) (k : Fin 13) (hk : k.val ≠ 0) : (sched (F := F) m ρ).duties (kcell c k) 0 = {0} := by
  show (if 0 = 0 ∧ (c : Thread nD τ).2 = .tc then
      (match semIx (csem k) with | some k => if k.val = 0 then Finset.univ else {0} | none => ∅) else ∅) = ({0} : Finset (Fin 6))
  rw [semIx_csem, if_pos ⟨rfl, rfl⟩]; exact if_neg hk
/-- No cell has payments after the first round. -/
theorem duties_later (g : GSem nD τ sig) : ∀ r, 1 ≤ r → (sched (F := F) m ρ).duties g r = ∅ := fun r hr => by
  dsimp only [sched]; exact if_neg fun h => by omega
/-- What a payment to cell `k` amounts to. -/
theorem amount_eq (c : Dev nD) (k : Fin 13) (r : ℕ) (d : Fin 6) : (sched (F := F) m ρ).amount (kcell c k) r d = amt k := by
  show (match semIx (csem k) with | some k => amt k | none => 1) = amt k
  rw [semIx_csem]
/-- What a payment to cell `k` hands over. -/
theorem payload_eq (c : Dev nD) (k : Fin 13) (r : ℕ) (d : Fin 6) : (sched (F := F) m ρ).payload (kcell c k) r d = cpay m ρ c k d := by
  show (match semIx (csem k) with | some k => cpay m ρ c k d | none => iprop(emp)) = cpay m ρ c k d
  rw [semIx_csem]
/-- The barrier cell's round amounts to six. -/
theorem expect_bar (c : Dev nD) : (sched (F := F) m ρ).expect (kcell c 0) 0 = 6 := by
  unfold Schedule.expect Schedule.amountOf
  rw [duties_bar, Finset.sum_congr rfl fun d _ => amount_eq m ρ c 0 0 d, Finset.sum_const, Finset.card_univ, Fintype.card_fin]
  rfl
/-- Any other cell's round amounts to its one payment. -/
theorem expect_one (c : Dev nD) (k : Fin 13) (hk : k.val ≠ 0) : (sched (F := F) m ρ).expect (kcell c k) 0 = amt k := by
  unfold Schedule.expect Schedule.amountOf; rw [duties_one m ρ c k hk, Finset.sum_singleton, amount_eq]

/-- All that the barrier's round hands over. -/
theorem rest_bar (c : Dev nD) :
    bigSep ((sched (F := F) m ρ).duties (kcell c 0) 0 \ ∅) (fun d => (sched (F := F) m ρ).payload (kcell c 0) 0 d)
      = iprop(barPay c 0 ∗ barPay c 1 ∗ barPay c 2 ∗ barPay c 3 ∗ barPay c 4 ∗ barPay c 5) := by
  rw [Finset.sdiff_empty, duties_bar, bigSep_congr fun d _ => payload_eq m ρ c 0 0 d]
  exact bigSep_univ_eq_bigSepL [(0 : Fin 6), 1, 2, 3, 4, 5] (by decide) (by decide) _
/-- All that a cell with one payment hands over is that payment's payload. -/
theorem rest_one (c : Dev nD) (k : Fin 13) (hk : k.val ≠ 0) :
    bigSep ((sched (F := F) m ρ).duties (kcell c k) 0 \ ∅) (fun d => (sched (F := F) m ρ).payload (kcell c k) 0 d) = cpay m ρ c k 0 := by
  rw [Finset.sdiff_empty, duties_one m ρ c k hk, bigSep_singleton, payload_eq]

/-! ## Payments -/

/-- The payments of a device in program order — the six signals, the three first-phase transfers, the three second-phase
    transfers — and then its own send cells: which cell, which duty, how far round the ring. -/
def payTab : Fin 18 → Fin 13 × Fin 6 × ℕ
  | 0 => (0, 0, 15) | 1 => (0, 1, 1) | 2 => (0, 2, 2) | 3 => (0, 3, 4) | 4 => (0, 4, 8) | 5 => (0, 5, 12)
  | 6 => (6, 0, 4) | 7 => (5, 0, 8) | 8 => (4, 0, 12)
  | 9 => (9, 0, 1) | 10 => (12, 0, 15) | 11 => (10, 0, 2)
  | 12 => (1, 0, 0) | 13 => (2, 0, 0) | 14 => (3, 0, 0) | 15 => (7, 0, 0) | 16 => (8, 0, 0) | 17 => (11, 0, 0)
  | ⟨_ + 18, h⟩ => absurd h (by omega)
abbrev payK (j : Fin 18) : Fin 13 := (payTab j).1
abbrev payD (j : Fin 18) : Fin 6 := (payTab j).2.1
abbrev payS (j : Fin 18) : ℕ := (payTab j).2.2

/-- No payment goes further than once around. -/
theorem payS_le (j : Fin 18) : payS j ≤ 16 := by revert j; decide

/-- The cell payment `j` of device `c` goes to. -/
abbrev tgt (j : Fin 18) (c : Dev nD) : GSem nD τ sig := kcell (sh (payS j) c) (payK j)

/-- What device `c` owes while the payments of the list are still to come, the next one first. -/
def owe : List (Fin 18) → Dev nD → CellTallies nD τ sig Unit
  | [], _ => 0
  | j :: l, c => owe l c + tallyAt (tgt j c) () (amt (payK j))

/-- Owed at launch. -/
abbrev O₀ (c : Dev nD) : CellTallies nD τ sig Unit := owe [0, 1, 2, 3, 4, 5, 6, 7, 8, 9, 10, 11] c

/-- Whatever is owed is owed to the target of a payment still to come. -/
theorem owe_pos {l : List (Fin 18)} {c : Dev nD} {g : GSem nD τ sig} {u : Unit} (h : 0 < owe l c g u) : ∃ j ∈ l, g = tgt j c := by
  induction l with
  | nil => exact absurd h (Nat.lt_irrefl 0)
  | cons j l ih =>
    rcases Pipeline.add_pos_cases h with h | h
    · obtain ⟨j', hj', e⟩ := ih h; exact ⟨j', List.mem_cons_of_mem _ hj', e⟩
    · exact ⟨j, List.mem_cons_self, (Pipeline.tallyAt_pos h).1⟩

/-! ## The levels -/

def L (g : GSem nD τ sig) : Finset Unit := if g.1.2 = .tc then {()} else ∅
/-- Only the compute cores' cells have a level. -/
theorem L_of_ne (g : GSem nD τ sig) (h : g.1.2 ≠ .tc) : L g = ∅ := if_neg h
/-- Every cell of a compute core has a level. -/
theorem L_tc (c : Dev nD) (sm : SemLoc sig) : L ((c : Thread nD τ), sm) = {()} := if_pos rfl

/-- Barrier cells at 1, the first phase's receive cells at 2, the second phase's at 3, all others at 0. -/
def clv (k : Fin 13) : ℕ := match k with | 0 => 1 | 4 => 2 | 5 => 2 | 6 => 2 | 9 => 3 | 10 => 3 | 12 => 3 | _ => 0
def lv (g : GSem nD τ sig) (_ : Unit) : ℕ := match semIx g.2 with | some k => clv k | none => 0

/-- The level of cell `k`. -/
theorem lv_kcell (c : Dev nD) (k : Fin 13) (u : Unit) : lv (kcell c k) u = clv k := by
  show (match semIx (csem k) with | some k => clv k | none => 0) = clv k
  rw [semIx_csem]

/-- A device may wait on a cell below every cell it still owes. -/
theorem mayWait_sem (c : Dev nD) (sm : SemLoc sig) (l : List (Fin 18)) (h : ∀ j ∈ l, lv ((c : Thread nD τ), sm) () < clv (payK j)) :
    (levAts L lv : sProp 𝕄) ⊢ MayWait (c : Thread nD τ) sm () (owe l c) :=
  Pipeline.mayWait_of_levAts (by rw [L_tc]; exact Finset.mem_singleton_self _) fun g u hg => by
    obtain ⟨j, hj, rfl⟩ := owe_pos hg
    exact ⟨Finset.mem_singleton_self _, by rw [lv_kcell]; exact h j hj⟩

/-- A device may wait at a cell that lies below every cell it still has to pay. -/
theorem mayWait_cell (c : Dev nD) (k : Fin 13) (l : List (Fin 18)) (h : ∀ j ∈ l, clv k < clv (payK j)) :
    (levAts L lv : sProp 𝕄) ⊢ MayWait (c : Thread nD τ) (csem k) () (owe l c) :=
  mayWait_sem c (csem k) l fun j hj => by rw [show lv ((c : Thread nD τ), csem k) () = clv k from lv_kcell c k ()]; exact h j hj

/-! ## What the launch hands every device -/

/-- Every cell's invariant, under the names the launch allocated, and that every cell is at round 0. -/
def records (K : Dev nD × Fin 13 → ℕ) : sProp 𝕄 :=
  iprop((bigSep Finset.univ fun ck : Dev nD × Fin 13 => cellInv ER (sched m ρ) (K ck) (kcell ck.1 ck.2))
    ∗ bigSep Finset.univ fun ck : Dev nD × Fin 13 => reached ER (kcell ck.1 ck.2) 0)

instance records_persistent (K : Dev nD × Fin 13 → ℕ) : BI.Persistent (records m ρ K) := by unfold records; infer_instance

/-- The records contain each cell's invariant. -/
theorem inv_at (K : Dev nD × Fin 13 → ℕ) (c : Dev nD) (k : Fin 13) : records m ρ K ⊢ cellInv ER (sched m ρ) (K (c, k)) (kcell c k) := by
  unfold records
  iintro ⟨#HI, #HR⟩
  iapply (show (bigSep Finset.univ fun ck : Dev nD × Fin 13 => (cellInv ER (sched m ρ) (K ck) (kcell ck.1 ck.2) : sProp 𝕄)) ⊢ _ from bigSep_elim (Finset.mem_univ (c, k)))
  iexact HI
/-- The records contain that each cell's first round has begun. -/
theorem reached_at (K : Dev nD × Fin 13 → ℕ) (c : Dev nD) (k : Fin 13) : records m ρ K ⊢ reached ER (kcell c k) 0 := by
  unfold records
  iintro ⟨#HI, #HR⟩
  iapply (show (bigSep Finset.univ fun ck : Dev nD × Fin 13 => (reached ER (kcell ck.1 ck.2) 0 : sProp 𝕄)) ⊢ _ from bigSep_elim (Finset.mem_univ (c, k)))
  iexact HR

end Cert.Moe

end
-- ==== Proof.Geom.lean ====
/-
# 01_k — `Geom`: slots, landings, loads

What the transfers, loads and stores of the kernel do to the four-slot buffers, element by element: which elements a
slot has, what a landing leaves there, what a load of the weights or of the routes of a slot reads, what the two stores
into slot 0 leave.
-/
module

public import proofs.«01_k».proof.Proof.Proto

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A rectangle of slot `j`: one slot, from row `a`, `n` rows. -/
abbrev rc (j a n : ℕ) (h : ∀ x, (![j, a, 0] : Fin 3 → ℕ) x + (![1, n, 256] : Fin 3 → ℕ) x ≤ S4x272x256.size x) : Rect S4x272x256 :=
  Rect.unit (s := S4x272x256) ![j, a, 0] ![1, n, 256] h

/-- Rows of a slot lie in the slot. -/
theorem rc_set_sub (j : Fin 4) (a n : ℕ) (h) : (rc j.val a n h).set ⊆ slotSet j := fun i hi => by
  have h0 := (Rect.mem_set_unit.mp hi) 0
  rw [mem_slotSet]
  simp at h0
  omega

/-- The elements of a slot are those of the slot's rectangle. -/
theorem rc_set (j : Fin 4) (h) : (rc j.val 0 272 h).set = slotSet j := by
  refine Finset.Subset.antisymm (rc_set_sub j 0 272 h) fun i hi => ?_
  rw [mem_slotSet] at hi
  refine Rect.mem_set_unit.mpr fun a => ?_
  have h1 : (i 1).val < 272 := (i 1).isLt
  have h2 : (i 2).val < 256 := (i 2).isLt
  fin_cases a <;> simp <;> omega

/-- The cells of the assembly buffer that a slot's view covers. -/
theorem slotN_set (j : Fin 4) (h) : (slotN j.val h).view.set = slotSet j :=
  (View.set_reshape _ _).trans ((View.set_slice_whole _ _).trans (rc_set j _))

/-- What one slot's view reads, placed in another slot: the element at the same row and column. -/
theorem slot_move (f g : S4x272x256.Idx → F .bf16) (n : ℕ) (h h0) (i i' : S4x272x256.Idx) (hi : (i 0).val = n) (hi' : (i' 0).val = 0)
    (h1 : (i 1).val = (i' 1).val) (h2 : (i 2).val = (i' 2).val) :
    (slotN n h).view.write (Elt F) g ((slotN 0 h0).view.read (Elt F) f) Finset.univ i = f i' := by
  have hb1 : (i 1).val < 272 := (i 1).isLt
  have hb2 : (i 2).val < 256 := (i 2).isLt
  let x : S1x272x256.Idx := fun | 0 => ⟨0, by decide⟩ | 1 => ⟨(i 1).val, hb1⟩ | 2 => ⟨(i 2).val, hb2⟩
  have hq : S272x256.numel = S1x272x256.numel := by decide
  let y : S272x256.Idx := (Shape.reshapeEquiv hq).symm x
  have hx : Shape.reshapeEquiv hq y = x := Equiv.apply_symm_apply _ _
  have hy : (slotN n h).view.emb y = i := by
    refine funext fun a => Fin.ext ?_
    show ((Rect.unit (s := S4x272x256) _ S1x272x256.size h).emb (Shape.reshapeEquiv hq y) a).val = (i a).val
    rw [hx, Rect.emb_apply]
    fin_cases a
    · simp [x]; exact hi.symm
    · simp [x]
    · simp [x]; rfl
  have hy' : (slotN 0 h0).view.emb y = i' := by
    refine funext fun a => Fin.ext ?_
    show ((Rect.unit (s := S4x272x256) _ S1x272x256.size h0).emb (Shape.reshapeEquiv hq y) a).val = (i' a).val
    rw [hx, Rect.emb_apply]
    fin_cases a
    · simp [x]; exact hi'.symm
    · simp [x]; exact h1
    · simp [x]; exact h2
  have e := View.write_emb_of_mem (Val := Elt F) (v := (slotN n h).view) (f := g) (w := (slotN 0 h0).view.read (Elt F) f) (h := Finset.mem_univ y)
  rw [hy] at e
  rw [e, View.read_apply, hy']
  rfl

/-- A slot sent from a good slot 0 lands good. -/
theorem good_landed (c : Dev nD) (j : Fin 4) (h h0) (f g : S4x272x256.Idx → F .bf16) (hf : Good m ρ c 0 f) :
    Good m ρ c j ((slotN j.val h).view.write (Elt F) g ((slotN 0 h0).view.read (Elt F) f) Finset.univ) := fun i hi h1 => by
  let i' : S4x272x256.Idx := fun | 0 => ⟨0, by decide⟩ | 1 => i 1 | 2 => i 2
  rw [slot_move f g j.val h h0 i i' hi rfl rfl rfl]
  exact hf i' rfl h1

/-- A whole buffer sent lands as it was. -/
theorem landed1 (f g : S4x272x256.Idx → F .bf16) : cw1M.view.write (Elt F) g (asmM.view.read (Elt F) f) Finset.univ = f := by
  show (View.whole cc0_scratch1).write (Elt F) g ((View.whole cc0_scratch0).read (Elt F) f) Finset.univ = f
  rw [View.read_whole]; exact View.write_whole_univ _ _ _
/-- A whole copy of the assembly buffer into a landing buffer leaves there what the assembly buffer held. -/
theorem landed2 (f g : S4x272x256.Idx → F .bf16) : cw2M.view.write (Elt F) g (asmM.view.read (Elt F) f) Finset.univ = f := by
  show (View.whole cc0_scratch2).write (Elt F) g ((View.whole cc0_scratch0).read (Elt F) f) Finset.univ = f
  rw [View.read_whole]; exact View.write_whole_univ _ _ _
/-- A whole copy of the assembly buffer into a landing buffer leaves there what the assembly buffer held. -/
theorem landed3 (f g : S4x272x256.Idx → F .bf16) : ccwM.view.write (Elt F) g (asmM.view.read (Elt F) f) Finset.univ = f := by
  show (View.whole cc0_scratch3).write (Elt F) g ((View.whole cc0_scratch0).read (Elt F) f) Finset.univ = f
  rw [View.read_whole]; exact View.write_whole_univ _ _ _

/-- Goodness reads the slot's elements only. -/
theorem good_congr {c : Dev nD} {j : Fin 4} {f g : S4x272x256.Idx → F .bf16} (h : ∀ i ∈ slotSet j, g i = f i) (hf : Good m ρ c j f) :
    Good m ρ c j g := fun i h0 h1 => (h i (mem_slotSet.mpr h0)).trans (hf i h0 h1)

/-- The elements of a good slot at rows below 256 are the weights' rows. -/
theorem good_w {c : Dev nD} {j : Fin 4} {f : S4x272x256.Idx → F .bf16} (hf : Good m ρ c j f) (h) :
    (fun x : S1x256x256.Idx => f ((rc j.val 0 256 h).emb x)) = wrow m ρ c := funext fun x => by
  have hx0 : (x 0).val < 1 := (x 0).isLt
  have hx1 : (x 1).val < 256 := (x 1).isLt
  have e0 : ((rc j.val 0 256 h).emb x 0).val = j.val := by rw [Rect.emb_apply]; simp; omega
  have e1 : ((rc j.val 0 256 h).emb x 1).val = (x 1).val := by rw [Rect.emb_apply]; simp
  have e2 : ((rc j.val 0 256 h).emb x 2).val = (x 2).val := by rw [Rect.emb_apply]; simp
  rw [hf _ e0 (by rw [e1]; omega)]
  unfold sent
  rw [dif_pos (by rw [e1]; exact hx1)]
  refine congrArg _ (funext fun a => Fin.ext ?_)
  fin_cases a
  · show 0 = (x 0).val; omega
  · exact e1
  · exact e2

/-- The elements of a good slot at row 256 are the routes. -/
theorem good_r {c : Dev nD} {j : Fin 4} {f : S4x272x256.Idx → F .bf16} (hf : Good m ρ c j f) (h) :
    (fun x : S1x1x256.Idx => f ((rc j.val 256 1 h).emb x)) = rrow m ρ c := funext fun x => by
  have hx0 : (x 0).val < 1 := (x 0).isLt
  have hx1 : (x 1).val < 1 := (x 1).isLt
  have e0 : ((rc j.val 256 1 h).emb x 0).val = j.val := by rw [Rect.emb_apply]; simp; omega
  have e1 : ((rc j.val 256 1 h).emb x 1).val = 256 := by rw [Rect.emb_apply]; simp; omega
  have e2 : ((rc j.val 256 1 h).emb x 2).val = (x 2).val := by rw [Rect.emb_apply]; simp
  rw [hf _ e0 (by rw [e1])]
  unfold sent
  rw [dif_neg (by rw [e1]; decide)]
  refine congrArg _ (funext fun a => Fin.ext ?_)
  fin_cases a
  · show 0 = (x 0).val; omega
  · show 0 = (x 1).val; omega
  · exact e2

/-- The two stores into slot 0 — the weights' rows, then the pair of rows 256 and 257 with the routes put in the first —
    leave it good. -/
theorem stored_good (c : Dev nD) (f : S4x272x256.Idx → F .bf16) (old : S1x2x256.Idx → F .bf16) (h1 h2) :
    Good m ρ c 0 ((asmM.access (rc 0 256 2 h2) : View sig .tc _ _ _).write (Elt F)
      ((asmM.access (rc 0 0 256 h1) : View sig .tc _ _ _).write (Elt F) f (wrow m ρ c) Finset.univ)
      (updateSlice old (rrow m ρ c) ![0, 0, 0] slices_S1x2x256_S1x1x256_0_0_0) Finset.univ) := fun i h0 hle => by
  have hb2 : (i 2).val < 256 := (i 2).isLt
  have h0' : (i 0).val = 0 := h0
  by_cases hi : (i 1).val < 256
  · rw [View.write_of_not_mem (h := fun hm => by
      have hm' := View.setOn_subset_set _ _ hm
      rw [show (asmM.access (rc 0 256 2 h2) : View sig .tc _ _ _).set = (rc 0 256 2 h2).set from View.set_slice_whole _ _] at hm'
      have := (Rect.mem_set_unit.mp hm') 1
      simp at this; omega)]
    let x : S1x256x256.Idx := fun | 0 => ⟨0, by decide⟩ | 1 => ⟨(i 1).val, hi⟩ | 2 => ⟨(i 2).val, hb2⟩
    have hx : (asmM.access (rc 0 0 256 h1) : View sig .tc _ _ _).emb x = i := funext fun a => Fin.ext (by
      show ((rc 0 0 256 h1).emb x a).val = (i a).val
      rw [Rect.emb_apply]; fin_cases a
      · simp [x]; exact h0'.symm
      · simp [x]
      · simp [x]; rfl)
    rw [← hx, View.write_emb_of_mem (h := Finset.mem_univ _), hx]
    unfold sent
    rw [dif_pos hi]
    exact congrArg (wrow m ρ c) (funext fun a => by fin_cases a <;> rfl)
  · let x : S1x2x256.Idx := fun | 0 => ⟨0, by decide⟩ | 1 => ⟨0, by decide⟩ | 2 => ⟨(i 2).val, hb2⟩
    have hx : (asmM.access (rc 0 256 2 h2) : View sig .tc _ _ _).emb x = i := funext fun a => Fin.ext (by
      show ((rc 0 256 2 h2).emb x a).val = (i a).val
      rw [Rect.emb_apply]; fin_cases a
      · simp [x]; exact h0'.symm
      · simp [x]; omega
      · simp [x]; rfl)
    rw [← hx, View.write_emb_of_mem (h := Finset.mem_univ _), hx]
    unfold sent
    rw [dif_neg hi]
    unfold updateSlice
    rw [dif_pos (fun a => by fin_cases a <;> simp [x]; exact hb2)]
    exact congrArg (rrow m ρ c) (funext fun a => by fin_cases a <;> rfl)

/-! ## Shares and slots -/

/-- A slot or a buffer held whole splits into its two halves. -/
theorem halves {ℓ : Loc nD τ sig} {I : Finset (Idx ℓ)} (f : Buf (Elt F) ℓ) (q : PosShare TreeShare) :
    (ℓ ↦[I]{q} f : sProp 𝕄) ⊣⊢ iprop((ℓ ↦[I]{q.left} f) ∗ (ℓ ↦[I]{q.right} f)) :=
  pointsTo_share (PosShare.mem_left_op_right q)

/-- Different slots have no cell in common. -/
theorem slots_disj : ((Finset.univ : Finset (Fin 4)) : Set (Fin 4)).PairwiseDisjoint slotSet := fun a _ b _ hab =>
  Finset.disjoint_left.mpr fun i ha hb => hab (Fin.ext ((mem_slotSet.mp ha).symm.trans (mem_slotSet.mp hb)))

/-- The four slots make up the assembly buffer. -/
theorem slots_union : (Finset.univ : Finset (Fin 4)).biUnion slotSet = Finset.univ := by
  ext i
  simp only [Finset.mem_biUnion, Finset.mem_univ, true_and, iff_true]
  exact ⟨⟨(i 0).val, (i 0).isLt⟩, mem_slotSet.mpr rfl⟩

end Cert.Moe

end
-- ==== Proof.Steps.lean ====
/-
# 01_k — `Steps`: one rule per kind of step

A signal, a transfer, a wait of the kernel, each with what it takes and gives under the protocol of `Proto`.
-/
module

public import proofs.«01_k».proof.Proof.Geom

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A program of device `c` run to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes, whatever it has waited for. -/
def ow (l : List (Fin 18)) (c : Dev nD) : sProp 𝕄 := iprop(∃ W, owes (c : Thread nD τ) (owe l c) W)

/-- The token of duty `d` of cell `k` of device `n`. -/
abbrev tok (n : Dev nD) (k : Fin 13) (d : Fin 6) : sProp 𝕄 := dutyTok ER (kcell n k) 0 d

variable (K : Dev nD × Fin 13 → ℕ)

/-- A barrier signal hands over its duty's payload and pays what is owed next. -/
theorem step_signal (j : Fin 18) (l : List (Fin 18)) (c n : Dev nD) (d : Fin 6) (ht : tgt j c = kcell n 0) (hj : payK j = 0)
    {k' : ℕ} (hk' : 1 = k') {α : Type} {k : PUnit → Prog (TpuEff nD τ sig (Elt F) Λ₀ .tc) α} {Q : α → sProp 𝕄} :
    iprop(records m ρ K ∗ ow (j :: l) c ∗ tok n 0 d ∗ barPay n d)
      ⊢ iprop((ow l c -∗ WP c (k ⟨⟩) Q) -∗ WP c (.op (.semSignal (n : Thread nD τ) barS k') k) Q) := by
  subst hk'
  unfold ow
  iintro ⟨#HR, ⟨%W, HO⟩, Ht, Hp⟩ Hk
  iapply (Rounds.wp_signal 𝒱₀ ER (sched m ρ) (c : Thread nD τ) none (dst := (n : Thread nD τ)) (κ := K (n, 0)) (r := 0) (d := d)
      (by rw [show ((n : Thread nD τ), SemLoc.reg barS) = kcell n 0 from rfl, duties_bar]; exact Finset.mem_univ _)
      (amount_eq m ρ n 0 0 d) () (owe l c) (by show owe l c + tallyAt (tgt j c) () (amt (payK j)) = _; rw [ht, hj]; rfl)) $$ [HO Ht Hp]
  · isplitr; · iapply (inv_at m ρ K n 0); iexact HR
    isplitl [HO]; · iexact HO
    isplitl [Ht]; · iexact Ht
    isplitl [Hp]
    · iapply (Entails.of_eq (show barPay n d = (sched m ρ).payload ((n : Thread nD τ), SemLoc.reg barS) 0 d from (payload_eq m ρ n 0 0 d).symm))
      iexact Hp
    iapply (reached_at m ρ K n 0); iexact HR
  iintro HO
  iapply Hk
  iexists W; iexact HO

/-- The barrier wait: the six payloads. -/
theorem step_barrier (l : List (Fin 18)) (hl : ∀ j ∈ l, 1 < clv (payK j)) (c : Dev nD)
    {w : TpuEff nD τ sig (Elt F) Λ₀ .tc PUnit} {k' : ℕ} (hk' : 6 = k')
    (hw : ∀ Kt : PUnit → sProp 𝕄, wpE (defs₀ (F := F)) 𝒱₀ (c : Thread nD τ) none Set.univ w Kt = waitSpec (c : Thread nD τ) Set.univ (.reg barS) k' Kt)
    {α : Type} {k : PUnit → Prog (TpuEff nD τ sig (Elt F) Λ₀ .tc) α} {Q : α → sProp 𝕄} :
    iprop(records m ρ K ∗ levAts L lv ∗ cred (tallyAt (kcell c 0) () 6) ∗ ow l c ∗ atPos ER (kcell c 0) 0 ∅ 0)
      ⊢ iprop(((ow l c ∗ atPos ER (kcell c 0) 1 ∅ 0
            ∗ barPay c 0 ∗ barPay c 1 ∗ barPay c 2 ∗ barPay c 3 ∗ barPay c 4 ∗ barPay c 5) -∗ WP c (k ⟨⟩) Q)
          -∗ WP c (.op w k) Q) := by
  subst hk'
  unfold ow
  iintro ⟨#HR, #Hlev, Hc, ⟨%W, HO⟩, Hat⟩ Hk
  iapply (Rounds.wp_wait_rest_token 𝒱₀ ER (sched m ρ) (c : Thread nD τ) none (κ := K (c, 0)) hw (Set.mem_univ _) () (O := owe l c) (W := W)
      (R := 0) (m := 0) (T := ∅) ((Nat.zero_add _).trans (expect_bar m ρ c).symm)) $$ [Hc HO Hat]
  · isplitr; · iapply (inv_at m ρ K c 0); iexact HR
    isplitl [Hc]; · iexact Hc
    isplitl [HO]; · iexact HO
    isplitr; · iapply (mayWait_cell c 0 l hl); iexact Hlev
    iexact Hat
  iintro ⟨HO, Hat, -, Hpay⟩
  ihave Hp := (Entails.of_eq (show bigSep ((sched (F := F) m ρ).duties ((c : Thread nD τ), SemLoc.reg barS) 0 \ ∅)
      (fun d => (sched (F := F) m ρ).payload ((c : Thread nD τ), SemLoc.reg barS) 0 d) = _ from rest_bar m ρ c)) $$ Hpay
  iapply Hk
  isplitl [HO]; · iexists _; iexact HO
  isplitl [Hat]; · iexact Hat
  iexact Hp

/-- A wait on one of the transfer cells: its payload. -/
theorem step_wait (k₀ : Fin 13) (h0 : k₀.val ≠ 0) (l : List (Fin 18)) (hl : ∀ j ∈ l, clv k₀ < clv (payK j)) (c : Dev nD)
    {w : TpuEff nD τ sig (Elt F) Λ₀ .tc PUnit} {sm : SemLoc sig} {k' : ℕ} (hsm : csem k₀ = sm) (hk' : amt k₀ = k')
    (hw : ∀ Kt : PUnit → sProp 𝕄, wpE (defs₀ (F := F)) 𝒱₀ (c : Thread nD τ) none Set.univ w Kt = waitSpec (c : Thread nD τ) Set.univ sm k' Kt)
    {α : Type} {k : PUnit → Prog (TpuEff nD τ sig (Elt F) Λ₀ .tc) α} {Q : α → sProp 𝕄} :
    iprop(records m ρ K ∗ levAts L lv ∗ cred (tallyAt (kcell c k₀) () (amt k₀)) ∗ ow l c ∗ atPos ER (kcell c k₀) 0 ∅ 0)
      ⊢ iprop(((ow l c ∗ atPos ER (kcell c k₀) 1 ∅ 0 ∗ cpay m ρ c k₀ 0) -∗ WP c (k ⟨⟩) Q)
          -∗ WP c (.op w k) Q) := by
  subst hsm hk'
  unfold ow
  iintro ⟨#HR, #Hlev, Hc, ⟨%W, HO⟩, Hat⟩ Hk
  iapply (Rounds.wp_wait_rest_token 𝒱₀ ER (sched m ρ) (c : Thread nD τ) none (κ := K (c, k₀)) hw (Set.mem_univ _) () (O := owe l c) (W := W)
      (R := 0) (m := 0) (T := ∅) ((Nat.zero_add _).trans (expect_one m ρ c k₀ h0).symm)) $$ [Hc HO Hat]
  · isplitr; · iapply (inv_at m ρ K c k₀); iexact HR
    isplitl [Hc]; · iexact Hc
    isplitl [HO]; · iexact HO
    isplitr; · iapply (mayWait_cell c k₀ l hl); iexact Hlev
    iexact Hat
  iintro ⟨HO, Hat, -, Hpay⟩
  ihave Hp := (Entails.of_eq (rest_one m ρ c k₀ h0)) $$ Hpay
  iapply Hk
  isplitl [HO]; · iexists _; iexact HO
  isplitl [Hat]; · iexact Hat
  iexact Hp

/-- A transfer from device `c` to device `n`: the source's share and the destination go in, with what rides along; the send
    cell's credit comes out. -/
theorem step_send (j : Fin 18) (l : List (Fin 18)) (c n : Dev nD) (kS kT : Fin 13) (hS0 : kS.val ≠ 0) (hT0 : kT.val ≠ 0)
    (ht : tgt j c = kcell n kT) (hj : payK j = kT) (hN : amt kS = amt kT)
    {s : Shape} {e : EltTy} {src : Memref sig .tc .vmem s e} {dst : Memref sig .tc .vmem s e} {sS sem : SemLoc sig}
    {hsc : (show Memref sig (Dev.tc n : Thread nD τ).2.kind .vmem s e from dst).view.ref.isScScratch = false}
    {hsrc : src.view.WordExact} {hdst : dst.view.WordExact}
    {hsem : DmaTarget.Typed .vmem sem (.remote (Dev.tc n : Thread nD τ) dst sS hsc)}
    (hkS : csem kS = sS) (hkT : csem kT = sem) (hA : dst.view.amount sem = amt kT)
    {q : PosShare TreeShare} {fs : Buf (Elt F) (src.view.loc (c : Thread nD τ))} {fd : Buf (Elt F) (dst.view.loc (n : Thread nD τ))} {G : sProp 𝕄}
    (hp1 : (src.view.loc (c : Thread nD τ) ↦[src.view.set]{q} fs) ⊢ cpay m ρ c kS 0)
    (hp2 : iprop((dst.view.loc (n : Thread nD τ) ↦[dst.view.set]{fullShare} (dst.view.write (Elt F) fd (src.view.read (Elt F) fs) Finset.univ)) ∗ G)
      ⊢ cpay m ρ n kT 0)
    {α : Type} {k : PUnit → Prog (TpuEff nD τ sig (Elt F) Λ₀ .tc) α} {Q : α → sProp 𝕄} :
    iprop(records m ρ K ∗ (src.view.loc (c : Thread nD τ) ↦[src.view.set]{q} fs) ∗ ((dst.view.loc (n : Thread nD τ) ↦[dst.view.set]{fullShare} fd) ∗ G)
        ∗ ow (j :: l) c ∗ tok c kS 0 ∗ tok n kT 0)
      ⊢ iprop(((cred (tallyAt (kcell c kS) () (amt kS)) ∗ ow l c) -∗ WP c (k ⟨⟩) Q)
          -∗ WP c (.op (.enqueueDma src (.remote (Dev.tc n : Thread nD τ) dst sS hsc) sem hsrc hdst hsem) k) Q) := by
  subst hkS hkT
  unfold ow
  iintro ⟨#HR, Hs, Hd, ⟨%W, HO⟩, Ht1, Ht2⟩ Hk
  iapply (Rounds.wp_send_pointsTo_with 𝒱₀ ER (sched m ρ) (c : Thread nD τ) none (κ₁ := K (c, kS)) (κ₂ := K (n, kT))
    (r₁ := 0) (r₂ := 0) (d₁ := 0) (d₂ := 0) (fd := fd) (F := G)
    (by rw [show ((c : Thread nD τ), csem kS) = kcell c kS from rfl, duties_one m ρ c kS hS0]; exact Finset.mem_singleton_self _)
    (by rw [show ((n : Thread nD τ), csem kT) = kcell n kT from rfl, duties_one m ρ n kT hT0]; exact Finset.mem_singleton_self _)
    () () (amt kT) hA ((amount_eq m ρ c kS 0 0).trans hN) (amount_eq m ρ n kT 0 0) (owe l c)
    (by show owe l c + tallyAt (tgt j c) () (amt (payK j)) = _; rw [ht, hj]) (W := W)
    (hp1.trans (Entails.of_eq (payload_eq m ρ c kS 0 0).symm)) (hp2.trans (Entails.of_eq (payload_eq m ρ n kT 0 0).symm))) $$ [Hs Hd HO Ht1 Ht2]
  · isplitr; · iapply (inv_at m ρ K c kS); iexact HR
    isplitr; · iapply (inv_at m ρ K n kT); iexact HR
    isplitl [Hs]; · iexact Hs
    isplitl [Hd]; · iexact Hd
    isplitl [HO]; · iexact HO
    isplitl [Ht1]; · iexact Ht1
    isplitr; · iapply (reached_at m ρ K c kS); iexact HR
    isplitl [Ht2]; · iexact Ht2
    iapply (reached_at m ρ K n kT); iexact HR
  iintro ⟨Hc, HO⟩
  iapply Hk
  isplitl [Hc]; · rw [hN]; iexact Hc
  iexists W; iexact HO

/-- A cell done with gives its counter back, at zero. -/
theorem step_close (c : Dev nD) (k : Fin 13) :
    iprop(records m ρ K ∗ atPos ER (kcell c k) 1 ∅ 0) ⊢ |={Set.univ}=> semVal (kcell c k) 0 := by
  iintro ⟨#HR, Hat⟩
  iapply (Rounds.cell_close ER (sched m ρ) (Set.mem_univ (K (c, k))) (fun h => h) (R := 1) (duties_later m ρ (kcell c k)))
  isplitr; · iapply (inv_at m ρ K c k); iexact HR
  iexact Hat

/-- What device `c` goes into the second phase with: the four slots of its assembly buffer, each as its sender sent it, joined
    to the whole buffer. -/
theorem asm_join (c : Dev nD) (q : PosShare TreeShare) (f₀ f₁ f₂ f₃ : S4x272x256.Idx → F .bf16)
    (h₀ : Good m ρ (sh 0 c) 0 f₀) (h₁ : Good m ρ (sh 4 c) 1 f₁) (h₂ : Good m ρ (sh 8 c) 2 f₂) (h₃ : Good m ρ (sh 12 c) 3 f₃) :
    iprop(slotPts c 0 q f₀ ∗ slotPts c 1 q f₁ ∗ slotPts c 2 q f₂ ∗ slotPts c 3 q f₃)
      ⊢ (iprop(∃ f, ⌜Good4 m ρ c f⌝ ∗ bufPts c cc0_scratch0 q f) : sProp 𝕄) := by
  let fs : Fin 4 → S4x272x256.Idx → F .bf16 := fun | 0 => f₀ | 1 => f₁ | 2 => f₂ | 3 => f₃
  have hd : ∀ t ∈ (Finset.univ : Finset (Fin 4)), ∀ t' ∈ (Finset.univ : Finset (Fin 4)), t ≠ t' → Disjoint (slotSet t) (slotSet t') :=
    fun t ht t' ht' hne => slots_disj ht ht' hne
  have hj := pointsTo_biUnion_join (Val := Elt F) (Ix := Unit) (Name := ℕ) (U := UU) (Lvl := ℕ) (ℓ := ((c : Thread nD τ).loc cc0_scratch0)) (q := q)
    (Finset.univ : Finset (Fin 4)) slotSet fs f₀ hd
  rw [slots_union, bigSep_univ_eq_bigSepL [(0 : Fin 4), 1, 2, 3] (by decide) (by decide)] at hj
  refine BI.Entails.trans ?_ (hj.trans ?_)
  · exact BI.Entails.refl _
  · iintro ⟨%g, %hg, H⟩
    iexists g
    isplitr
    · ipureintro
      intro j
      have := hg j (Finset.mem_univ _)
      fin_cases j
      · exact good_congr m ρ this h₀
      · exact good_congr m ρ this h₁
      · exact good_congr m ρ this h₂
      · exact good_congr m ρ this h₃
    · iexact H

/-- The whole assembly buffer splits into its four slots. -/
theorem asm_split (c : Dev nD) (q : PosShare TreeShare) (f : S4x272x256.Idx → F .bf16) :
    (bufPts c cc0_scratch0 q f : sProp 𝕄) ⊢ iprop(slotPts c 0 q f ∗ slotPts c 1 q f ∗ slotPts c 2 q f ∗ slotPts c 3 q f) := by
  have hd : ∀ t ∈ (Finset.univ : Finset (Fin 4)), ∀ t' ∈ (Finset.univ : Finset (Fin 4)), t ≠ t' → Disjoint (slotSet t) (slotSet t') :=
    fun t ht t' ht' hne => slots_disj ht ht' hne
  have hj := pointsTo_biUnion (Val := Elt F) (Ix := Unit) (Name := ℕ) (U := UU) (Lvl := ℕ) (ℓ := ((c : Thread nD τ).loc cc0_scratch0)) (q := q) (f := f)
    (Finset.univ : Finset (Fin 4)) slotSet hd
  rw [slots_union, bigSep_univ_eq_bigSepL [(0 : Fin 4), 1, 2, 3] (by decide) (by decide)] at hj
  exact Entails.of_eq hj

end Cert.Moe

end
-- ==== Proof.Vals.lean ====
/-
# 01_k — `Vals`: the values of the kernel's run

Every value that one section of the kernel's body passes on to the next, on device `c`, as a function of what the pipeline
stages on the sixteen devices: `a103`, for one, is what the body calls its value 103.
-/
module

public import proofs.«01_k».proof.Proof.Proto

@[expose] public section

noncomputable section

namespace Cert.Moe

open Cert.KernelIdeal Cert.KernelIdeal.Gen
open Idealize.ShloMosaic

variable {F : FTy → Type} [FloatOps F]

/-! What section 1 of the body passes on. -/

def a2 (c : Dev nD) : BitVec 32 := Scalar.remsi (Scalar.divsi (Dev.word c) 1#32) 16#32
def a5 (c : Dev nD) : BitVec 32 := Scalar.remsi (Scalar.addi (Scalar.subi (a2 c) 1#32) 16#32) 16#32
def a7 (c : Dev nD) : BitVec 32 := Scalar.remsi (Scalar.addi (a2 c) 1#32) 16#32
def a25 (c : Dev nD) : BitVec 32 := Scalar.addi (a2 c) 8#32

/-! What section 2 of the body passes on. -/

def a34 (m : (ℓ : Loc nD τ sig) → Buf (Elt F) ℓ) (ρ : Dev nD → PrngReg) (c : Dev nD) : FVec F S256x128 .bf16 := k0_pay1 (xstg m ρ c)
def a36 (m : (ℓ : Loc nD τ sig) → Buf (Elt F) ℓ) (ρ : Dev nD → PrngReg) (c : Dev nD) : IVec S256x1 32 := k0_pay2 (rstg m ρ c)
def a39 (m : (ℓ : Loc nD τ sig) → Buf (Elt F) ℓ) (ρ : Dev nD → PrngReg) (c : Dev nD) : FVec F S256x256 .bf16 := k0_pay3 (wstg m ρ c)
def a50 (c : Dev nD) : BitVec 32 := Scalar.muli (Scalar.remsi (Scalar.addi (a2 c) 4#32) 16#32) 1#32

/-! What section 3 of the body passes on. -/

/-! What section 4 of the body passes on. -/

def a85 (m : (ℓ : Loc nD τ sig) → Buf (Elt F) ℓ) (ρ : Dev nD → PrngReg) (c : Dev nD) : FVec F S1x32 .bf16 := k0_pay6 (F := F)
def a103 (m : (ℓ : Loc nD τ sig) → Buf (Elt F) ℓ) (ρ : Dev nD → PrngReg) (c : Dev nD) : FVec F S256x256 .f32 := k0_pay7 (a2 c) (a34 m ρ c) (a36 m ρ c) (a39 m ρ c)
def a108 (m : (ℓ : Loc nD τ sig) → Buf (Elt F) ℓ) (ρ : Dev nD → PrngReg) (c : Dev nD) : FVec F S256x32 .f32 := k0_pay8 (F := F) (a36 m ρ c)
def a114 (m : (ℓ : Loc nD τ sig) → Buf (Elt F) ℓ) (ρ : Dev nD → PrngReg) (c : Dev nD) : FVec F S256x32 .f32 := k0_pay9 (F := F) (a36 m ρ c)
def a115 (m : (ℓ : Loc nD τ sig) → Buf (Elt F) ℓ) (ρ : Dev nD → PrngReg) (c : Dev nD) : FVec F S1x32 .f32 := k0_pay10 (F := F)

/-! What section 5 of the body passes on. -/

def a147 (c : Dev nD) : BitVec 32 := Scalar.remsi (Scalar.addi (a2 c) 2#32) 16#32
def a148 (c : Dev nD) : BitVec 32 := Scalar.muli (a7 c) 1#32

/-! What section 6 of the body passes on. -/

def a187 (m : (ℓ : Loc nD τ sig) → Buf (Elt F) ℓ) (ρ : Dev nD → PrngReg) (c : Dev nD) : FVec F S256x256 .f32 := k0_pay11 (a2 c) (a34 m ρ c) (a36 m ρ c) (wrow m ρ (sh 4 c))
def a188 (c : Dev nD) : BitVec 1 := Scalar.cmpi .slt (Scalar.remsi (Scalar.addi (a2 c) 4#32) 16#32) (a2 c)

/-! What section 7 of the body passes on. -/

def a201 (m : (ℓ : Loc nD τ sig) → Buf (Elt F) ℓ) (ρ : Dev nD → PrngReg) (c : Dev nD) : FVec F S256x256 .f32 := k0_pay12 (a103 m ρ c) (a187 m ρ c)
def a202 (m : (ℓ : Loc nD τ sig) → Buf (Elt F) ℓ) (ρ : Dev nD → PrngReg) (c : Dev nD) : FVec F S1x32 .f32 := k0_pay13 (a85 m ρ c) (a115 m ρ c) (a188 c) (rrow m ρ (sh 4 c))
def a224 (m : (ℓ : Loc nD τ sig) → Buf (Elt F) ℓ) (ρ : Dev nD → PrngReg) (c : Dev nD) : FVec F S256x256 .f32 := k0_pay14 (a2 c) (a34 m ρ c) (a36 m ρ c) (wrow m ρ (sh 8 c))
def a225 (c : Dev nD) : BitVec 1 := Scalar.cmpi .slt (Scalar.remsi (Scalar.addi (a2 c) 8#32) 16#32) (a2 c)
def a233 (m : (ℓ : Loc nD τ sig) → Buf (Elt F) ℓ) (ρ : Dev nD → PrngReg) (c : Dev nD) : FVec F S256x32 .f32 := k0_pay15 (a85 m ρ c) (rrow m ρ (sh 8 c))

/-! What section 8 of the body passes on. -/

def a275 (m : (ℓ : Loc nD τ sig) → Buf (Elt F) ℓ) (ρ : Dev nD → PrngReg) (c : Dev nD) : FVec F S256x256 .f32 := k0_pay16 (a2 c) (a34 m ρ c) (a36 m ρ c) (a201 m ρ c) (a224 m ρ c) (wrow m ρ (sh 12 c))
def a276 (m : (ℓ : Loc nD τ sig) → Buf (Elt F) ℓ) (ρ : Dev nD → PrngReg) (c : Dev nD) : FVec F S1x32 .f32 := k0_pay17 (a2 c) (a85 m ρ c) (a202 m ρ c) (a225 c) (a233 m ρ c) (rrow m ρ (sh 12 c))

/-! What section 9 of the body passes on. -/

def a317 (m : (ℓ : Loc nD τ sig) → Buf (Elt F) ℓ) (ρ : Dev nD → PrngReg) (c : Dev nD) : FVec F S1x32 .f32 := k0_pay18 (a2 c) (a85 m ρ c) (rrow m ρ (sh 0 (sh 15 c)))
def a318 (m : (ℓ : Loc nD τ sig) → Buf (Elt F) ℓ) (ρ : Dev nD → PrngReg) (c : Dev nD) : FVec F S256x256 .f32 := k0_pay19 (a2 c) (a34 m ρ c) (a36 m ρ c) (a275 m ρ c) (wrow m ρ (sh 0 (sh 15 c)))

/-! What section 10 of the body passes on. -/

def a357 (m : (ℓ : Loc nD τ sig) → Buf (Elt F) ℓ) (ρ : Dev nD → PrngReg) (c : Dev nD) : FVec F S256x256 .f32 := k0_pay20 (a2 c) (a34 m ρ c) (a36 m ρ c) (a318 m ρ c) (wrow m ρ (sh 4 (sh 15 c)))
def a358 (m : (ℓ : Loc nD τ sig) → Buf (Elt F) ℓ) (ρ : Dev nD → PrngReg) (c : Dev nD) : FVec F S1x32 .f32 := k0_pay21 (a2 c) (a85 m ρ c) (a276 m ρ c) (a317 m ρ c) (rrow m ρ (sh 4 (sh 15 c)))
def a360 (c : Dev nD) : BitVec 32 := Scalar.addi (Scalar.subi (a2 c) 1#32) 8#32

/-! What section 11 of the body passes on. -/

def a396 (m : (ℓ : Loc nD τ sig) → Buf (Elt F) ℓ) (ρ : Dev nD → PrngReg) (c : Dev nD) : FVec F S256x256 .f32 := k0_pay22 (a34 m ρ c) (a36 m ρ c) (a357 m ρ c) (a360 c) 16#32 (wrow m ρ (sh 8 (sh 15 c)))
def a397 (m : (ℓ : Loc nD τ sig) → Buf (Elt F) ℓ) (ρ : Dev nD → PrngReg) (c : Dev nD) : FVec F S1x32 .f32 := k0_pay23 (a2 c) (a85 m ρ c) (a358 m ρ c) (a360 c) 16#32 (rrow m ρ (sh 8 (sh 15 c)))
def a401 (c : Dev nD) : BitVec 32 := Scalar.remsi (Scalar.addi (Scalar.addi (Scalar.subi (a2 c) 1#32) 12#32) 16#32) 16#32

/-! What section 12 of the body passes on. -/

def a435 (m : (ℓ : Loc nD τ sig) → Buf (Elt F) ℓ) (ρ : Dev nD → PrngReg) (c : Dev nD) : FVec F S256x256 .f32 := k0_pay24 (a34 m ρ c) (a36 m ρ c) (a396 m ρ c) (a401 c) (wrow m ρ (sh 12 (sh 15 c)))
def a436 (m : (ℓ : Loc nD τ sig) → Buf (Elt F) ℓ) (ρ : Dev nD → PrngReg) (c : Dev nD) : FVec F S1x32 .f32 := k0_pay25 (a2 c) (a85 m ρ c) (a397 m ρ c) (a401 c) (rrow m ρ (sh 12 (sh 15 c)))
def a443 (c : Dev nD) : BitVec 32 := Scalar.remsi (Scalar.addi (Scalar.addi (a2 c) 1#32) 0#32) 16#32

/-! What section 13 of the body passes on. -/

def a477 (m : (ℓ : Loc nD τ sig) → Buf (Elt F) ℓ) (ρ : Dev nD → PrngReg) (c : Dev nD) : FVec F S256x256 .f32 := k0_pay26 (a34 m ρ c) (a36 m ρ c) (a435 m ρ c) (a443 c) (wrow m ρ (sh 0 (sh 1 c)))
def a478 (m : (ℓ : Loc nD τ sig) → Buf (Elt F) ℓ) (ρ : Dev nD → PrngReg) (c : Dev nD) : FVec F S1x32 .f32 := k0_pay27 (a2 c) (a85 m ρ c) (a436 m ρ c) (a443 c) (rrow m ρ (sh 0 (sh 1 c)))
def a481 (c : Dev nD) : BitVec 32 := Scalar.remsi (Scalar.addi (Scalar.addi (a2 c) 1#32) 4#32) 16#32
def a483 (m : (ℓ : Loc nD τ sig) → Buf (Elt F) ℓ) (ρ : Dev nD → PrngReg) (c : Dev nD) : FVec F S256x256 .bf16 := k0_pay28 (wrow m ρ (sh 4 (sh 1 c)))
def a484 (c : Dev nD) : BitVec 32 := Scalar.muli 2#32 (a481 c)
def a487 (m : (ℓ : Loc nD τ sig) → Buf (Elt F) ℓ) (ρ : Dev nD → PrngReg) (c : Dev nD) : IVec S256x1 32 := k0_pay29 (a2 c) (a36 m ρ c)

/-! What section 14 of the body passes on. -/

def a515 (m : (ℓ : Loc nD τ sig) → Buf (Elt F) ℓ) (ρ : Dev nD → PrngReg) (c : Dev nD) : FVec F S256x256 .f32 := k0_pay30 (a34 m ρ c) (a36 m ρ c) (a477 m ρ c) (a483 m ρ c) (a484 c) (a487 m ρ c)
def a516 (m : (ℓ : Loc nD τ sig) → Buf (Elt F) ℓ) (ρ : Dev nD → PrngReg) (c : Dev nD) : FVec F S1x32 .f32 := k0_pay31 (a2 c) (a85 m ρ c) (a478 m ρ c) (a481 c) (rrow m ρ (sh 4 (sh 1 c)))
def a519 (c : Dev nD) : BitVec 32 := Scalar.remsi (Scalar.addi (Scalar.addi (a2 c) 1#32) 8#32) 16#32
def a521 (m : (ℓ : Loc nD τ sig) → Buf (Elt F) ℓ) (ρ : Dev nD → PrngReg) (c : Dev nD) : FVec F S256x256 .bf16 := k0_pay32 (wrow m ρ (sh 8 (sh 1 c)))
def a527 (m : (ℓ : Loc nD τ sig) → Buf (Elt F) ℓ) (ρ : Dev nD → PrngReg) (c : Dev nD) : FVec F S256x1 .bf16 := k0_pay33 (F := F) (a2 c) (a36 m ρ c)
def a532 (m : (ℓ : Loc nD τ sig) → Buf (Elt F) ℓ) (ρ : Dev nD → PrngReg) (c : Dev nD) : FVec F S256x1 .f32 := k0_pay34 (F := F) (a2 c) (a36 m ρ c)

/-! What section 15 of the body passes on. -/

def a553 (m : (ℓ : Loc nD τ sig) → Buf (Elt F) ℓ) (ρ : Dev nD → PrngReg) (c : Dev nD) : FVec F S256x256 .f32 := k0_pay35 (a34 m ρ c) (a515 m ρ c) (a521 m ρ c) (a527 m ρ c) (a532 m ρ c)
def a554 (m : (ℓ : Loc nD τ sig) → Buf (Elt F) ℓ) (ρ : Dev nD → PrngReg) (c : Dev nD) : FVec F S1x32 .f32 := k0_pay36 (a2 c) (a85 m ρ c) (a516 m ρ c) (a519 c) (rrow m ρ (sh 8 (sh 1 c)))
def a557 (c : Dev nD) : BitVec 32 := Scalar.remsi (Scalar.addi (Scalar.addi (a2 c) 1#32) 12#32) 16#32
def a577 (m : (ℓ : Loc nD τ sig) → Buf (Elt F) ℓ) (ρ : Dev nD → PrngReg) (c : Dev nD) : FVec F S256x256 .f32 := k0_pay37 (a2 c) (a34 m ρ c) (a36 m ρ c) (wrow m ρ (sh 12 (sh 1 c)))

/-! What section 16 of the body passes on. -/

def a591 (m : (ℓ : Loc nD τ sig) → Buf (Elt F) ℓ) (ρ : Dev nD → PrngReg) (c : Dev nD) : FVec F S256x256 .f32 := k0_pay38 (a553 m ρ c) (a577 m ρ c)
def a592 (m : (ℓ : Loc nD τ sig) → Buf (Elt F) ℓ) (ρ : Dev nD → PrngReg) (c : Dev nD) : FVec F S1x32 .f32 := k0_pay39 (a2 c) (a85 m ρ c) (a554 m ρ c) (a557 c) (rrow m ρ (sh 12 (sh 1 c)))
def a600 (c : Dev nD) : BitVec 32 := Scalar.remsi (Scalar.addi (Scalar.addi (Scalar.subi (a2 c) 2#32) 0#32) 16#32) 16#32
def a602 (m : (ℓ : Loc nD τ sig) → Buf (Elt F) ℓ) (ρ : Dev nD → PrngReg) (c : Dev nD) : FVec F S256x256 .bf16 := k0_pay40 (wrow m ρ (sh 0 (sh 14 c)))
def a616 (m : (ℓ : Loc nD τ sig) → Buf (Elt F) ℓ) (ρ : Dev nD → PrngReg) (c : Dev nD) : FVec F S256x128 .bf16 := k0_pay41 (a2 c) (a34 m ρ c) (a36 m ρ c)
def a618 (m : (ℓ : Loc nD τ sig) → Buf (Elt F) ℓ) (ρ : Dev nD → PrngReg) (c : Dev nD) : FVec F S256x128 .bf16 := k0_pay42 (a2 c) (a34 m ρ c) (a36 m ρ c)

/-! What section 17 of the body passes on. -/

def a634 (m : (ℓ : Loc nD τ sig) → Buf (Elt F) ℓ) (ρ : Dev nD → PrngReg) (c : Dev nD) : FVec F S256x256 .f32 := k0_pay43 (a591 m ρ c) (a602 m ρ c) (a616 m ρ c) (a618 m ρ c)
def a635 (m : (ℓ : Loc nD τ sig) → Buf (Elt F) ℓ) (ρ : Dev nD → PrngReg) (c : Dev nD) : FVec F S1x32 .f32 := k0_pay44 (a2 c) (a85 m ρ c) (a592 m ρ c) (a600 c) (rrow m ρ (sh 0 (sh 14 c)))
def a659 (m : (ℓ : Loc nD τ sig) → Buf (Elt F) ℓ) (ρ : Dev nD → PrngReg) (c : Dev nD) : FVec F S256x256 .f32 := k0_pay45 (a2 c) (a34 m ρ c) (a36 m ρ c) (wrow m ρ (sh 4 (sh 14 c)))
def a660 (c : Dev nD) : BitVec 1 := Scalar.cmpi .slt (Scalar.remsi (Scalar.addi (Scalar.addi (Scalar.subi (a2 c) 2#32) 4#32) 16#32) 16#32) (a2 c)

/-! What section 18 of the body passes on. -/

def a673 (m : (ℓ : Loc nD τ sig) → Buf (Elt F) ℓ) (ρ : Dev nD → PrngReg) (c : Dev nD) : FVec F S256x256 .f32 := k0_pay46 (a634 m ρ c) (a659 m ρ c)
def a674 (m : (ℓ : Loc nD τ sig) → Buf (Elt F) ℓ) (ρ : Dev nD → PrngReg) (c : Dev nD) : FVec F S1x32 .f32 := k0_pay47 (a85 m ρ c) (a635 m ρ c) (a660 c) (rrow m ρ (sh 4 (sh 14 c)))
def a698 (m : (ℓ : Loc nD τ sig) → Buf (Elt F) ℓ) (ρ : Dev nD → PrngReg) (c : Dev nD) : FVec F S256x256 .f32 := k0_pay48 (a2 c) (a34 m ρ c) (a36 m ρ c) (wrow m ρ (sh 8 (sh 14 c)))
def a699 (c : Dev nD) : BitVec 1 := Scalar.cmpi .slt (Scalar.remsi (Scalar.addi (Scalar.addi (Scalar.subi (a2 c) 2#32) 8#32) 16#32) 16#32) (a2 c)
def a703 (m : (ℓ : Loc nD τ sig) → Buf (Elt F) ℓ) (ρ : Dev nD → PrngReg) (c : Dev nD) : FVec F S256x32 .bf16 := k0_pay49 (rrow m ρ (sh 8 (sh 14 c)))
def a704 (m : (ℓ : Loc nD τ sig) → Buf (Elt F) ℓ) (ρ : Dev nD → PrngReg) (c : Dev nD) : FVec F S256x32 .bf16 := k0_pay50 (a85 m ρ c)

/-! What section 19 of the body passes on. -/

def a712 (m : (ℓ : Loc nD τ sig) → Buf (Elt F) ℓ) (ρ : Dev nD → PrngReg) (c : Dev nD) : FVec F S256x256 .f32 := k0_pay51 (a673 m ρ c) (a698 m ρ c)
def a713 (m : (ℓ : Loc nD τ sig) → Buf (Elt F) ℓ) (ρ : Dev nD → PrngReg) (c : Dev nD) : FVec F S1x32 .f32 := k0_pay52 (a674 m ρ c) (a699 c) (a703 m ρ c) (a704 m ρ c)
def a737 (m : (ℓ : Loc nD τ sig) → Buf (Elt F) ℓ) (ρ : Dev nD → PrngReg) (c : Dev nD) : FVec F S256x256 .f32 := k0_pay53 (a2 c) (a34 m ρ c) (a36 m ρ c) (wrow m ρ (sh 12 (sh 14 c)))
def a738 (c : Dev nD) : BitVec 1 := Scalar.cmpi .slt (Scalar.remsi (Scalar.addi (Scalar.addi (Scalar.subi (a2 c) 2#32) 12#32) 16#32) 16#32) (a2 c)
def a748 (m : (ℓ : Loc nD τ sig) → Buf (Elt F) ℓ) (ρ : Dev nD → PrngReg) (c : Dev nD) : FVec F S1x32 .f32 := k0_pay54 (a85 m ρ c) (rrow m ρ (sh 12 (sh 14 c)))

/-! What section 20 of the body passes on. -/

def a751 (m : (ℓ : Loc nD τ sig) → Buf (Elt F) ℓ) (ρ : Dev nD → PrngReg) (c : Dev nD) : FVec F S256x256 .f32 := k0_pay55 (a712 m ρ c) (a737 m ρ c)
def a752 (m : (ℓ : Loc nD τ sig) → Buf (Elt F) ℓ) (ρ : Dev nD → PrngReg) (c : Dev nD) : FVec F S1x32 .f32 := k0_pay56 (a713 m ρ c) (a738 c) (a748 m ρ c)

/-- What device `c` stores as its block of the result. -/
def outAt (m : (ℓ : Loc nD τ sig) → Buf (Elt F) ℓ) (ρ : Dev nD → PrngReg) (c : Dev nD) : FVec F S256x256 .f32 :=
  k0_pay57 (a108 m ρ c) (a114 m ρ c) (a751 m ρ c) (a752 m ρ c)

end Cert.Moe

end
-- ==== Proof.Loads.lean ====
/-
# 01_k — `Loads`: reading what was sent

A load of rows 0 to 255 of a slot reads the two experts of the slot's sender; a load of its row 256 reads the sender's routes.
-/
module

public import proofs.«01_k».proof.Proof.Steps
public import proofs.«01_k».proof.Proof.Vals

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! The semaphores as the body names them. -/

/-- The semaphore numbered 1 is the one that the kernel's text names. -/
theorem sem_1 : csem 1 = .dma ((cc0_scratch4.slice (Rect.unit (s := S3) ![0] S1.size inb_S3_S1_0)).squeeze S_ squeezes_S1_S_).sem := by decide
/-- The semaphore numbered 2 is the one that the kernel's text names. -/
theorem sem_2 : csem 2 = .dma ((cc0_scratch4.slice (Rect.unit (s := S3) ![1] S1.size inb_S3_S1_1)).squeeze S_ squeezes_S1_S_).sem := by decide
/-- The semaphore numbered 3 is the one that the kernel's text names. -/
theorem sem_3 : csem 3 = .dma ((cc0_scratch4.slice (Rect.unit (s := S3) ![2] S1.size inb_S3_S1_2)).squeeze S_ squeezes_S1_S_).sem := by decide
/-- The semaphore numbered 4 is the one that the kernel's text names. -/
theorem sem_4 : csem 4 = .dma ((cc0_scratch5.slice (Rect.unit (s := S3) ![0] S1.size inb_S3_S1_0)).squeeze S_ squeezes_S1_S_).sem := by decide
/-- The semaphore numbered 5 is the one that the kernel's text names. -/
theorem sem_5 : csem 5 = .dma ((cc0_scratch5.slice (Rect.unit (s := S3) ![1] S1.size inb_S3_S1_1)).squeeze S_ squeezes_S1_S_).sem := by decide
/-- The semaphore numbered 6 is the one that the kernel's text names. -/
theorem sem_6 : csem 6 = .dma ((cc0_scratch5.slice (Rect.unit (s := S3) ![2] S1.size inb_S3_S1_2)).squeeze S_ squeezes_S1_S_).sem := by decide
/-- The semaphore numbered 7 is the one that the kernel's text names. -/
theorem sem_7 : csem 7 = .dma ((cc0_scratch6.slice (Rect.unit (s := S2) ![0] S1.size inb_S2_S1_0)).squeeze S_ squeezes_S1_S_).sem := by decide
/-- The semaphore numbered 8 is the one that the kernel's text names. -/
theorem sem_8 : csem 8 = .dma ((cc0_scratch6.slice (Rect.unit (s := S2) ![1] S1.size inb_S2_S1_1)).squeeze S_ squeezes_S1_S_).sem := by decide
/-- The semaphore numbered 9 is the one that the kernel's text names. -/
theorem sem_9 : csem 9 = .dma ((cc0_scratch7.slice (Rect.unit (s := S2) ![0] S1.size inb_S2_S1_0)).squeeze S_ squeezes_S1_S_).sem := by decide
/-- The semaphore numbered 10 is the one that the kernel's text names. -/
theorem sem_10 : csem 10 = .dma ((cc0_scratch7.slice (Rect.unit (s := S2) ![1] S1.size inb_S2_S1_1)).squeeze S_ squeezes_S1_S_).sem := by decide
/-- The semaphore numbered 11 is the one that the kernel's text names. -/
theorem sem_11 : csem 11 = .dma ((cc0_scratch8.slice (Rect.unit (s := S1) ![0] S1.size inb_S1_S1_0)).squeeze S_ squeezes_S1_S_).sem := by decide
/-- The semaphore numbered 12 is the one that the kernel's text names. -/
theorem sem_12 : csem 12 = .dma ((cc0_scratch9.slice (Rect.unit (s := S1) ![0] S1.size inb_S1_S1_0)).squeeze S_ squeezes_S1_S_).sem := by decide

/-! The credits of the two sizes of transfer. -/

/-- A second-phase cell counts the bytes of a whole buffer. -/
theorem amt_w (k : Fin 13) (h : 6 < k.val) : amt k = NW := by unfold amt; rw [if_neg (by omega), if_neg (by omega)]
/-- That number is what a copy out of the assembly buffer credits. -/
theorem amt_asm (k : Fin 13) (h : 6 < k.val) : amt k = asmM.view.dmaCredit := amt_w k h
/-- That number is what a copy into the first landing buffer credits. -/
theorem amt_cw1 (k : Fin 13) (h : 6 < k.val) : amt k = cw1M.view.dmaCredit := (amt_w k h).trans rfl
/-- That number is what a copy into the second landing buffer credits. -/
theorem amt_cw2 (k : Fin 13) (h : 6 < k.val) : amt k = cw2M.view.dmaCredit := (amt_w k h).trans rfl
/-- That number is what a copy into the third landing buffer credits. -/
theorem amt_ccw (k : Fin 13) (h : 6 < k.val) : amt k = ccwM.view.dmaCredit := (amt_w k h).trans rfl
/-- A first-phase cell counts what a copy of one slot credits. -/
theorem amt_slot (k : Fin 13) (h : k.val ≠ 0) (h' : k.val ≤ 6) (n : ℕ) (hn) : amt k = (slotN n hn).view.dmaCredit := by
  unfold amt; rw [if_neg h, if_pos h']

section
variable (K : Dev nD × Fin 13 → ℕ)

/-- A wait on one of the transfer cells, as the body writes it. -/
theorem step_waitDma (k₀ : Fin 13) (h0 : k₀.val ≠ 0) (l : List (Fin 18)) (hl : ∀ j ∈ l, clv k₀ < clv (payK j)) (c : Dev nD)
    {s s' : Shape} {e e' : EltTy} {sem : DmaSem sig} {src : Memref sig .tc .vmem s' e'} {dst : Memref sig .tc .vmem s e}
    {hsrc : src.view.WordExact} {hdst : dst.view.WordExact} (hsm : csem k₀ = .dma sem) (hk' : amt k₀ = dst.view.dmaCredit)
    {α : Type} {k : PUnit → Prog (TpuEff nD τ sig (Elt F) Λ₀ .tc) α} {Q : α → sProp 𝕄} :
    iprop(records m ρ K ∗ levAts L lv ∗ cred (tallyAt (kcell c k₀) () (amt k₀)) ∗ ow l c ∗ atPos ER (kcell c k₀) 0 ∅ 0)
      ⊢ iprop(((ow l c ∗ atPos ER (kcell c k₀) 1 ∅ 0 ∗ cpay m ρ c k₀ 0) -∗ WP c (k ⟨⟩) Q)
          -∗ WP c (.op (.waitDma2 sem src dst hsrc hdst) k) Q) :=
  step_wait m ρ K k₀ h0 l hl c hsm hk' (wpE_waitDma2_eq 𝒱₀ (c : Thread nD τ) none Set.univ)

/-- The end of a section. -/
theorem wp_done (c : Dev nD) {α : Type} (a : α) (Q : α → sProp 𝕄) : Q a ⊢ WP c (.ret a) Q := by
  show Q a ⊢ wp frame (wpE (defs₀ (F := F)) 𝒱₀ (c : Thread nD τ) none) Set.univ (.ret a) Q
  rw [wp_ret]
  iintro H
  imodintro
  iexact H
end

/-- Slot `j` of device `c`'s assembly buffer, with what device `d` sends in it. -/
def slotL (c d : Dev nD) (j : Fin 4) (q : PosShare TreeShare) : sProp 𝕄 := iprop(∃ f, ⌜Good m ρ d j f⌝ ∗ slotPts c j q f)

/-- Landing buffers with what the devices at distance 0, 4, 8 and 12 from `d` send in them. -/
def ring1 (c d : Dev nD) : sProp 𝕄 := iprop(∃ f, ⌜Good4 m ρ d f⌝ ∗ bufPts c cc0_scratch1 fullShare f)
@[inherit_doc ring1] def ring2 (c d : Dev nD) : sProp 𝕄 := iprop(∃ f, ⌜Good4 m ρ d f⌝ ∗ bufPts c cc0_scratch2 fullShare f)
@[inherit_doc ring1] def ring3 (c d : Dev nD) : sProp 𝕄 := iprop(∃ f, ⌜Good4 m ρ d f⌝ ∗ bufPts c cc0_scratch3 fullShare f)

/-- The experts in a slot of the assembly buffer. -/
theorem load_asm_w (c d : Dev nD) (j : Fin 4) (q : PosShare TreeShare) {n : ℕ} (hn : n = j.val) {h}
    {hl : (asmM : Memref sig .tc .vmem S4x272x256 .bf16).view.LoadsAt (rc n 0 256 h).toLoadRect} {α : Type}
    {k : Vec F S1x256x256 .bf16 → Prog (TpuEff nD τ sig (Elt F) Λ₀ .tc) α} {Q : α → sProp 𝕄} :
    slotL m ρ c d j q ⊢ iprop((slotL m ρ c d j q -∗ WP c (k (wrow m ρ d)) Q)
      -∗ WP c (.op (.load asmM (Rect.unit (s := S4x272x256) ![n, 0, 0] S1x256x256.size h).toLoadRect hl) k) Q) := by
  subst hn
  unfold slotL
  iintro ⟨%f, %hf, H⟩ Hk
  iapply (wp_load 𝒱₀ (c : Thread nD τ) none Set.univ (m := asmM) (S := slotSet j) (f := f)
    (fun i hi => rc_set_sub j 0 256 h (by
      obtain ⟨x, hx, rfl⟩ := Finset.mem_map.1 hi
      exact hx))) $$ H
  iintro H
  rw [← good_w m ρ hf h]
  iapply Hk
  iexists f
  isplitr; · ipureintro; exact hf
  iexact H

/-- The routes in a slot of the assembly buffer. -/
theorem load_asm_r (c d : Dev nD) (j : Fin 4) (q : PosShare TreeShare) {n : ℕ} (hn : n = j.val) {h}
    {hl : (asmM : Memref sig .tc .vmem S4x272x256 .bf16).view.LoadsAt (rc n 256 1 h).toLoadRect} {α : Type}
    {k : Vec F S1x1x256 .bf16 → Prog (TpuEff nD τ sig (Elt F) Λ₀ .tc) α} {Q : α → sProp 𝕄} :
    slotL m ρ c d j q ⊢ iprop((slotL m ρ c d j q -∗ WP c (k (rrow m ρ d)) Q)
      -∗ WP c (.op (.load asmM (Rect.unit (s := S4x272x256) ![n, 256, 0] S1x1x256.size h).toLoadRect hl) k) Q) := by
  subst hn
  unfold slotL
  iintro ⟨%f, %hf, H⟩ Hk
  iapply (wp_load 𝒱₀ (c : Thread nD τ) none Set.univ (m := asmM) (S := slotSet j) (f := f)
    (fun i hi => rc_set_sub j 256 1 h (by
      obtain ⟨x, hx, rfl⟩ := Finset.mem_map.1 hi
      exact hx))) $$ H
  iintro H
  rw [← good_r m ρ hf h]
  iapply Hk
  iexists f
  isplitr; · ipureintro; exact hf
  iexact H

/-- The experts in a slot of the first clockwise landing buffer. -/
theorem load_ring1_w (c d : Dev nD) (j : Fin 4) {n k₀ : ℕ} (hn : n = j.val) (hk : 4 * j.val = k₀) {h}
    {hl : (cw1M : Memref sig .tc .vmem S4x272x256 .bf16).view.LoadsAt (rc n 0 256 h).toLoadRect} {α : Type}
    {k : Vec F S1x256x256 .bf16 → Prog (TpuEff nD τ sig (Elt F) Λ₀ .tc) α} {Q : α → sProp 𝕄} :
    ring1 m ρ c d ⊢ iprop((ring1 m ρ c d -∗ WP c (k (wrow m ρ (sh k₀ d))) Q)
      -∗ WP c (.op (.load cw1M (Rect.unit (s := S4x272x256) ![n, 0, 0] S1x256x256.size h).toLoadRect hl) k) Q) := by
  subst hn hk
  unfold ring1
  iintro ⟨%f, %hf, H⟩ Hk
  iapply (wp_load 𝒱₀ (c : Thread nD τ) none Set.univ (m := cw1M) (f := f) (Finset.subset_univ _)) $$ H
  iintro H
  rw [← good_w m ρ (hf j) h]
  iapply Hk
  iexists f
  isplitr; · ipureintro; exact hf
  iexact H

/-- The routes in a slot of the first clockwise landing buffer. -/
theorem load_ring1_r (c d : Dev nD) (j : Fin 4) {n k₀ : ℕ} (hn : n = j.val) (hk : 4 * j.val = k₀) {h}
    {hl : (cw1M : Memref sig .tc .vmem S4x272x256 .bf16).view.LoadsAt (rc n 256 1 h).toLoadRect} {α : Type}
    {k : Vec F S1x1x256 .bf16 → Prog (TpuEff nD τ sig (Elt F) Λ₀ .tc) α} {Q : α → sProp 𝕄} :
    ring1 m ρ c d ⊢ iprop((ring1 m ρ c d -∗ WP c (k (rrow m ρ (sh k₀ d))) Q)
      -∗ WP c (.op (.load cw1M (Rect.unit (s := S4x272x256) ![n, 256, 0] S1x1x256.size h).toLoadRect hl) k) Q) := by
  subst hn hk
  unfold ring1
  iintro ⟨%f, %hf, H⟩ Hk
  iapply (wp_load 𝒱₀ (c : Thread nD τ) none Set.univ (m := cw1M) (f := f) (Finset.subset_univ _)) $$ H
  iintro H
  rw [← good_r m ρ (hf j) h]
  iapply Hk
  iexists f
  isplitr; · ipureintro; exact hf
  iexact H

/-- The experts in a slot of the second clockwise landing buffer. -/
theorem load_ring2_w (c d : Dev nD) (j : Fin 4) {n k₀ : ℕ} (hn : n = j.val) (hk : 4 * j.val = k₀) {h}
    {hl : (cw2M : Memref sig .tc .vmem S4x272x256 .bf16).view.LoadsAt (rc n 0 256 h).toLoadRect} {α : Type}
    {k : Vec F S1x256x256 .bf16 → Prog (TpuEff nD τ sig (Elt F) Λ₀ .tc) α} {Q : α → sProp 𝕄} :
    ring2 m ρ c d ⊢ iprop((ring2 m ρ c d -∗ WP c (k (wrow m ρ (sh k₀ d))) Q)
      -∗ WP c (.op (.load cw2M (Rect.unit (s := S4x272x256) ![n, 0, 0] S1x256x256.size h).toLoadRect hl) k) Q) := by
  subst hn hk
  unfold ring2
  iintro ⟨%f, %hf, H⟩ Hk
  iapply (wp_load 𝒱₀ (c : Thread nD τ) none Set.univ (m := cw2M) (f := f) (Finset.subset_univ _)) $$ H
  iintro H
  rw [← good_w m ρ (hf j) h]
  iapply Hk
  iexists f
  isplitr; · ipureintro; exact hf
  iexact H

/-- The routes in a slot of the second clockwise landing buffer. -/
theorem load_ring2_r (c d : Dev nD) (j : Fin 4) {n k₀ : ℕ} (hn : n = j.val) (hk : 4 * j.val = k₀) {h}
    {hl : (cw2M : Memref sig .tc .vmem S4x272x256 .bf16).view.LoadsAt (rc n 256 1 h).toLoadRect} {α : Type}
    {k : Vec F S1x1x256 .bf16 → Prog (TpuEff nD τ sig (Elt F) Λ₀ .tc) α} {Q : α → sProp 𝕄} :
    ring2 m ρ c d ⊢ iprop((ring2 m ρ c d -∗ WP c (k (rrow m ρ (sh k₀ d))) Q)
      -∗ WP c (.op (.load cw2M (Rect.unit (s := S4x272x256) ![n, 256, 0] S1x1x256.size h).toLoadRect hl) k) Q) := by
  subst hn hk
  unfold ring2
  iintro ⟨%f, %hf, H⟩ Hk
  iapply (wp_load 𝒱₀ (c : Thread nD τ) none Set.univ (m := cw2M) (f := f) (Finset.subset_univ _)) $$ H
  iintro H
  rw [← good_r m ρ (hf j) h]
  iapply Hk
  iexists f
  isplitr; · ipureintro; exact hf
  iexact H

/-- The experts in a slot of the counterclockwise landing buffer. -/
theorem load_ring3_w (c d : Dev nD) (j : Fin 4) {n k₀ : ℕ} (hn : n = j.val) (hk : 4 * j.val = k₀) {h}
    {hl : (ccwM : Memref sig .tc .vmem S4x272x256 .bf16).view.LoadsAt (rc n 0 256 h).toLoadRect} {α : Type}
    {k : Vec F S1x256x256 .bf16 → Prog (TpuEff nD τ sig (Elt F) Λ₀ .tc) α} {Q : α → sProp 𝕄} :
    ring3 m ρ c d ⊢ iprop((ring3 m ρ c d -∗ WP c (k (wrow m ρ (sh k₀ d))) Q)
      -∗ WP c (.op (.load ccwM (Rect.unit (s := S4x272x256) ![n, 0, 0] S1x256x256.size h).toLoadRect hl) k) Q) := by
  subst hn hk
  unfold ring3
  iintro ⟨%f, %hf, H⟩ Hk
  iapply (wp_load 𝒱₀ (c : Thread nD τ) none Set.univ (m := ccwM) (f := f) (Finset.subset_univ _)) $$ H
  iintro H
  rw [← good_w m ρ (hf j) h]
  iapply Hk
  iexists f
  isplitr; · ipureintro; exact hf
  iexact H

/-- The routes in a slot of the counterclockwise landing buffer. -/
theorem load_ring3_r (c d : Dev nD) (j : Fin 4) {n k₀ : ℕ} (hn : n = j.val) (hk : 4 * j.val = k₀) {h}
    {hl : (ccwM : Memref sig .tc .vmem S4x272x256 .bf16).view.LoadsAt (rc n 256 1 h).toLoadRect} {α : Type}
    {k : Vec F S1x1x256 .bf16 → Prog (TpuEff nD τ sig (Elt F) Λ₀ .tc) α} {Q : α → sProp 𝕄} :
    ring3 m ρ c d ⊢ iprop((ring3 m ρ c d -∗ WP c (k (rrow m ρ (sh k₀ d))) Q)
      -∗ WP c (.op (.load ccwM (Rect.unit (s := S4x272x256) ![n, 256, 0] S1x1x256.size h).toLoadRect hl) k) Q) := by
  subst hn hk
  unfold ring3
  iintro ⟨%f, %hf, H⟩ Hk
  iapply (wp_load 𝒱₀ (c : Thread nD τ) none Set.univ (m := ccwM) (f := f) (Finset.subset_univ _)) $$ H
  iintro H
  rw [← good_r m ρ (hf j) h]
  iapply Hk
  iexists f
  isplitr; · ipureintro; exact hf
  iexact H

end Cert.Moe

end
-- ==== Proof.BodyB.lean ====
/-
# 01_k — `BodyB`: the barrier, and what a device stages in slot 0
-/
module

public import proofs.«01_k».proof.Proof.Loads

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-! The devices addressed, as places round the ring. -/

/-- The target of the kernel's signal or copy number 1, by its distance around the sixteen devices. -/
theorem dev1 (c : Dev nD) : (⟨k0_dev1 c, k0_dev1_lt c⟩ : Dev nD) = sh 15 c := Fin.ext (k0_dev1_eq c)
/-- The target of the kernel's signal or copy number 2, by its distance around the sixteen devices. -/
theorem dev2 (c : Dev nD) : (⟨k0_dev2 c, k0_dev2_lt c⟩ : Dev nD) = sh 1 c := Fin.ext (k0_dev2_eq c)
/-- The target of the kernel's signal or copy number 3, by its distance around the sixteen devices. -/
theorem dev3 (c : Dev nD) : (⟨k0_dev3 c, k0_dev3_lt c⟩ : Dev nD) = sh 2 c := Fin.ext (k0_dev3_eq c)
/-- The target of the kernel's signal or copy number 4, by its distance around the sixteen devices. -/
theorem dev4 (c : Dev nD) : (⟨k0_dev4 c, k0_dev4_lt c⟩ : Dev nD) = sh 4 c := Fin.ext (k0_dev4_eq c)
/-- The target of the kernel's signal or copy number 5, by its distance around the sixteen devices. -/
theorem dev5 (c : Dev nD) : (⟨k0_dev5 c, k0_dev5_lt c⟩ : Dev nD) = sh 8 c := Fin.ext (k0_dev5_eq c)
/-- The target of the kernel's signal or copy number 6, by its distance around the sixteen devices. -/
theorem dev6 (c : Dev nD) : (⟨k0_dev6 c, k0_dev6_lt c⟩ : Dev nD) = sh 12 c := Fin.ext (k0_dev6_eq c)

/-! What each barrier signal hands over is the sender's own. -/

/-- What device `c` hands over with its barrier signal number 0: a buffer or slot of its own, to the device that will copy into it. -/
theorem give0 (c : Dev nD) : (iprop(∃ f, bufPts c cc0_scratch1 fullShare f) : sProp 𝕄) ⊢ barPay (sh 15 c) 0 := by
  show _ ⊢ iprop(∃ f, bufPts (sh 1 (sh 15 c)) cc0_scratch1 fullShare f)
  rw [sh_sh, sh_turn _ 0 (by decide), sh_zero]
/-- What device `c` hands over with its barrier signal number 1: a buffer or slot of its own, to the device that will copy into it. -/
theorem give1 (c : Dev nD) : (iprop(∃ f, bufPts c cc0_scratch3 fullShare f) : sProp 𝕄) ⊢ barPay (sh 1 c) 1 := by
  show _ ⊢ iprop(∃ f, bufPts (sh 15 (sh 1 c)) cc0_scratch3 fullShare f)
  rw [sh_sh, sh_turn _ 0 (by decide), sh_zero]
/-- What device `c` hands over with its barrier signal number 2: a buffer or slot of its own, to the device that will copy into it. -/
theorem give2 (c : Dev nD) : (iprop(∃ f, bufPts c cc0_scratch2 fullShare f) : sProp 𝕄) ⊢ barPay (sh 2 c) 2 := by
  show _ ⊢ iprop(∃ f, bufPts (sh 14 (sh 2 c)) cc0_scratch2 fullShare f)
  rw [sh_sh, sh_turn _ 0 (by decide), sh_zero]
/-- What device `c` hands over with its barrier signal number 3: a buffer or slot of its own, to the device that will copy into it. -/
theorem give3 (c : Dev nD) : (iprop(∃ f, slotPts c 1 fullShare f) : sProp 𝕄) ⊢ barPay (sh 4 c) 3 := by
  show _ ⊢ iprop(∃ f, slotPts (sh 12 (sh 4 c)) 1 fullShare f)
  rw [sh_sh, sh_turn _ 0 (by decide), sh_zero]
/-- What device `c` hands over with its barrier signal number 4: a buffer or slot of its own, to the device that will copy into it. -/
theorem give4 (c : Dev nD) : (iprop(∃ f, slotPts c 2 fullShare f) : sProp 𝕄) ⊢ barPay (sh 8 c) 4 := by
  show _ ⊢ iprop(∃ f, slotPts (sh 8 (sh 8 c)) 2 fullShare f)
  rw [sh_sh, sh_turn _ 0 (by decide), sh_zero]
/-- What device `c` hands over with its barrier signal number 5: a buffer or slot of its own, to the device that will copy into it. -/
theorem give5 (c : Dev nD) : (iprop(∃ f, slotPts c 3 fullShare f) : sProp 𝕄) ⊢ barPay (sh 12 c) 5 := by
  show _ ⊢ iprop(∃ f, slotPts (sh 4 (sh 12 c)) 3 fullShare f)
  rw [sh_sh, sh_turn _ 0 (by decide), sh_zero]

/-- Section 1: the first four barrier signals. -/
theorem part1 (c : Dev nD) (Q : _ → sProp 𝕄) :
    iprop(records m ρ K ∗ ow [0, 1, 2, 3, 4, 5, 6, 7, 8, 9, 10, 11] c ∗ tok (sh 15 c) 0 0 ∗ tok (sh 1 c) 0 1 ∗ tok (sh 2 c) 0 2 ∗ tok (sh 4 c) 0 3 ∗ (∃ f, bufPts c cc0_scratch1 fullShare f) ∗ (∃ f, bufPts c cc0_scratch3 fullShare f) ∗ (∃ f, bufPts c cc0_scratch2 fullShare f) ∗ (∃ f, slotPts c 1 fullShare f))
      ⊢ iprop((ow [4, 5, 6, 7, 8, 9, 10, 11] c -∗ Q ⟨c, (a2 c), (a5 c), (a7 c), (SemArray.scalar (sig.barrier 0 rfl) : Sems sig S_), (a25 c), 16#32⟩)
        -∗ WP c (k0_part1_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Q) := by
  unfold k0_part1_skel a25 a7 a5 a2
  simp only [semSignalWord, Prog.lift, Prog.bind_op, Prog.bind_ret, Prog.pure_eq_ret, wp_deviceId]
  simp only [dev1 c, dev2 c, dev3 c, dev4 c]
  iintro ⟨#HR, HO, Ht0, Ht1, Ht2, Ht3, H0, H1, H2, H3⟩ Hk
  iapply (step_signal m ρ K 0 [1, 2, 3, 4, 5, 6, 7, 8, 9, 10, 11] c (sh 15 c) 0 rfl rfl rfl) $$ [HO Ht0 H0]
  · isplitr; · iexact HR
    isplitl [HO]; · iexact HO
    isplitl [Ht0]; · iexact Ht0
    iapply (give0 c); iexact H0
  iintro HO
  iapply (step_signal m ρ K 1 [2, 3, 4, 5, 6, 7, 8, 9, 10, 11] c (sh 1 c) 1 rfl rfl rfl) $$ [HO Ht1 H1]
  · isplitr; · iexact HR
    isplitl [HO]; · iexact HO
    isplitl [Ht1]; · iexact Ht1
    iapply (give1 c); iexact H1
  iintro HO
  iapply (step_signal m ρ K 2 [3, 4, 5, 6, 7, 8, 9, 10, 11] c (sh 2 c) 2 rfl rfl rfl) $$ [HO Ht2 H2]
  · isplitr; · iexact HR
    isplitl [HO]; · iexact HO
    isplitl [Ht2]; · iexact Ht2
    iapply (give2 c); iexact H2
  iintro HO
  iapply (step_signal m ρ K 3 [4, 5, 6, 7, 8, 9, 10, 11] c (sh 4 c) 3 rfl rfl rfl) $$ [HO Ht3 H3]
  · isplitr; · iexact HR
    isplitl [HO]; · iexact HO
    isplitl [Ht3]; · iexact Ht3
    iapply (give3 c); iexact H3
  iintro HO
  iapply (wp_done c _ Q)
  iapply Hk
  iexact HO

/-- The two zero offsets that the loads and stores are printed with. -/
theorem hz2 : (![0, 0] : Fin 2 → ℕ) = fun _ => 0 := funext fun a => by fin_cases a <;> rfl
/-- The three zero offsets that the loads and stores are printed with. -/
theorem hz3 : (![0, 0, 0] : Fin 3 → ℕ) = fun _ => 0 := funext fun a => by fin_cases a <;> rfl

/-- A staged block, loaded whole. -/
theorem load_x (c : Dev nD) (f : (cc0_stg0_0 : Ref sig .tc).ty.Contents (Elt F)) {h}
    {hl : (Memref.whole cc0_stg0_0 : Memref sig .tc .vmem S256x128 .bf16).view.LoadsAt (Rect.unit (s := S256x128) ![0, 0] S256x128.size h).toLoadRect}
    {α : Type} {k : Vec F S256x128 .bf16 → Prog (TpuEff nD τ sig (Elt F) Λ₀ .tc) α} {Q : α → sProp 𝕄} :
    bufPts c cc0_stg0_0 fullShare f ⊢ iprop((bufPts c cc0_stg0_0 fullShare f -∗ WP c (k f) Q)
      -∗ WP c (.op (.load (Memref.whole cc0_stg0_0) (Rect.unit (s := S256x128) ![0, 0] S256x128.size h).toLoadRect hl) k) Q) := by
  iintro H Hk
  iapply (wp_load 𝒱₀ (c : Thread nD τ) none Set.univ (m := Memref.whole cc0_stg0_0) (f := f) (Finset.subset_univ _)) $$ H
  iintro H
  rw [show (Memref.whole cc0_stg0_0 : Memref sig .tc .vmem S256x128 .bf16).view.readAt (Elt F) (Rect.unit (s := S256x128) ![0, 0] S256x128.size h).toLoadRect f = f from
    Memref.readAt_unit_zero (Elt F) cc0_stg0_0 hz2 _ f]
  iapply Hk
  iexact H

/-- A staged block, loaded whole. -/
theorem load_r (c : Dev nD) (f : (cc0_stg2_0 : Ref sig .tc).ty.Contents (Elt F)) {h}
    {hl : (Memref.whole cc0_stg2_0 : Memref sig .tc .vmem S256x1 .i32).view.LoadsAt (Rect.unit (s := S256x1) ![0, 0] S256x1.size h).toLoadRect}
    {α : Type} {k : Vec F S256x1 .i32 → Prog (TpuEff nD τ sig (Elt F) Λ₀ .tc) α} {Q : α → sProp 𝕄} :
    bufPts c cc0_stg2_0 fullShare f ⊢ iprop((bufPts c cc0_stg2_0 fullShare f -∗ WP c (k f) Q)
      -∗ WP c (.op (.load (Memref.whole cc0_stg2_0) (Rect.unit (s := S256x1) ![0, 0] S256x1.size h).toLoadRect hl) k) Q) := by
  iintro H Hk
  iapply (wp_load 𝒱₀ (c : Thread nD τ) none Set.univ (m := Memref.whole cc0_stg2_0) (f := f) (Finset.subset_univ _)) $$ H
  iintro H
  rw [show (Memref.whole cc0_stg2_0 : Memref sig .tc .vmem S256x1 .i32).view.readAt (Elt F) (Rect.unit (s := S256x1) ![0, 0] S256x1.size h).toLoadRect f = f from
    Memref.readAt_unit_zero (Elt F) cc0_stg2_0 hz2 _ f]
  iapply Hk
  iexact H

/-- A staged block, loaded whole. -/
theorem load_w (c : Dev nD) (f : (cc0_stg3_0 : Ref sig .tc).ty.Contents (Elt F)) {h}
    {hl : (Memref.whole cc0_stg3_0 : Memref sig .tc .vmem S2x128x256 .bf16).view.LoadsAt (Rect.unit (s := S2x128x256) ![0, 0, 0] S2x128x256.size h).toLoadRect}
    {α : Type} {k : Vec F S2x128x256 .bf16 → Prog (TpuEff nD τ sig (Elt F) Λ₀ .tc) α} {Q : α → sProp 𝕄} :
    bufPts c cc0_stg3_0 fullShare f ⊢ iprop((bufPts c cc0_stg3_0 fullShare f -∗ WP c (k f) Q)
      -∗ WP c (.op (.load (Memref.whole cc0_stg3_0) (Rect.unit (s := S2x128x256) ![0, 0, 0] S2x128x256.size h).toLoadRect hl) k) Q) := by
  iintro H Hk
  iapply (wp_load 𝒱₀ (c : Thread nD τ) none Set.univ (m := Memref.whole cc0_stg3_0) (f := f) (Finset.subset_univ _)) $$ H
  iintro H
  rw [show (Memref.whole cc0_stg3_0 : Memref sig .tc .vmem S2x128x256 .bf16).view.readAt (Elt F) (Rect.unit (s := S2x128x256) ![0, 0, 0] S2x128x256.size h).toLoadRect f = f from
    Memref.readAt_unit_zero (Elt F) cc0_stg3_0 hz3 _ f]
  iapply Hk
  iexact H

/-- A staged block, loaded whole. -/
theorem load_o (c : Dev nD) (f : (cc0_stg4_0 : Ref sig .tc).ty.Contents (Elt F)) {h}
    {hl : (Memref.whole cc0_stg4_0 : Memref sig .tc .vmem S256x256 .f32).view.LoadsAt (Rect.unit (s := S256x256) ![0, 0] S256x256.size h).toLoadRect}
    {α : Type} {k : Vec F S256x256 .f32 → Prog (TpuEff nD τ sig (Elt F) Λ₀ .tc) α} {Q : α → sProp 𝕄} :
    bufPts c cc0_stg4_0 fullShare f ⊢ iprop((bufPts c cc0_stg4_0 fullShare f -∗ WP c (k f) Q)
      -∗ WP c (.op (.load (Memref.whole cc0_stg4_0) (Rect.unit (s := S256x256) ![0, 0] S256x256.size h).toLoadRect hl) k) Q) := by
  iintro H Hk
  iapply (wp_load 𝒱₀ (c : Thread nD τ) none Set.univ (m := Memref.whole cc0_stg4_0) (f := f) (Finset.subset_univ _)) $$ H
  iintro H
  rw [show (Memref.whole cc0_stg4_0 : Memref sig .tc .vmem S256x256 .f32).view.readAt (Elt F) (Rect.unit (s := S256x256) ![0, 0] S256x256.size h).toLoadRect f = f from
    Memref.readAt_unit_zero (Elt F) cc0_stg4_0 hz2 _ f]
  iapply Hk
  iexact H

/-- A slot whose contents are what device `d` sends is a slot with that recorded. -/
theorem slotL_intro {c d : Dev nD} {j : Fin 4} {q : PosShare TreeShare} {f : S4x272x256.Idx → F .bf16} (hf : Good m ρ d j f) :
    slotPts c j q f ⊢ slotL m ρ c d j q := by
  unfold slotL
  iintro H
  iexists f
  isplitr; · ipureintro; exact hf
  iexact H

/-- A slot of the assembly buffer, whatever it holds, is stored to: what the two stores leave. -/
theorem step_store (c : Dev nD) (f : S4x272x256.Idx → F .bf16) (a n : ℕ) (h)
    {w : (rc 0 a n h).shape.Idx → Elt F .bf16} {hs : (asmM.access (rc 0 a n h) : View sig .tc _ _ _).Stores Finset.univ} {hx}
    {α : Type} {k : PUnit → Prog (TpuEff nD τ sig (Elt F) Λ₀ .tc) α} {Q : α → sProp 𝕄} :
    slotPts c 0 fullShare f ⊢ iprop((slotPts c 0 fullShare ((asmM.access (rc 0 a n h) : View sig .tc _ _ _).write (Elt F) f w Finset.univ) -∗ WP c (k ⟨⟩) Q)
      -∗ WP c (.op (.store asmM (rc 0 a n h) w Finset.univ hs hx) k) Q) := by
  iintro H Hk
  iapply (wp_store 𝒱₀ (c : Thread nD τ) none Set.univ (m := asmM) (r := rc 0 a n h) (Mk := Finset.univ) (S := slotSet 0) (f := f)
    (fun i hi => by
      have hm' := View.setOn_subset_set _ _ hi
      rw [show (asmM.access (rc 0 a n h) : View sig .tc _ _ _).set = (rc 0 a n h).set from View.set_slice_whole _ _] at hm'
      exact rc_set_sub 0 a n h hm')) $$ H
  iexact Hk

/-- A slot of the assembly buffer, whatever it holds, is loaded from. -/
theorem step_peek (c : Dev nD) (f : S4x272x256.Idx → F .bf16) (a n : ℕ) (h)
    {hl : (asmM : Memref sig .tc .vmem S4x272x256 .bf16).view.LoadsAt (rc 0 a n h).toLoadRect}
    {α : Type} {k : ((rc 0 a n h).shape.Idx → Elt F .bf16) → Prog (TpuEff nD τ sig (Elt F) Λ₀ .tc) α} {Q : α → sProp 𝕄} :
    slotPts c 0 fullShare f ⊢ iprop((slotPts c 0 fullShare f -∗ WP c (k (asmM.view.readAt (Elt F) (rc 0 a n h).toLoadRect f)) Q)
      -∗ WP c (.op (.load asmM (rc 0 a n h).toLoadRect hl) k) Q) := by
  iintro H Hk
  iapply (wp_load 𝒱₀ (c : Thread nD τ) none Set.univ (m := asmM) (S := slotSet 0) (f := f)
    (fun i hi => rc_set_sub 0 a n h (by
      obtain ⟨x, hx, rfl⟩ := Finset.mem_map.1 hi
      exact hx))) $$ H
  iexact Hk

/-- Section 2: the last two signals and the barrier wait; then the device's operands are read and slot 0 is filled. -/
theorem part2 (c : Dev nD) (Q : _ → sProp 𝕄) :
    iprop(records m ρ K ∗ levAts L lv ∗ ow [4, 5, 6, 7, 8, 9, 10, 11] c ∗ tok (sh 8 c) 0 4 ∗ tok (sh 12 c) 0 5 ∗ (∃ f, slotPts c 2 fullShare f) ∗ (∃ f, slotPts c 3 fullShare f)
        ∗ cred (tallyAt (kcell c 0) () 6) ∗ atPos ER (kcell c 0) 0 ∅ 0
        ∗ bufPts c cc0_stg0_0 fullShare (xstg m ρ c) ∗ bufPts c cc0_stg2_0 fullShare (rstg m ρ c) ∗ bufPts c cc0_stg3_0 fullShare (wstg m ρ c)
        ∗ (∃ f, slotPts c 0 fullShare f))
      ⊢ iprop(((ow [6, 7, 8, 9, 10, 11] c ∗ atPos ER (kcell c 0) 1 ∅ 0 ∗ (barPay c 0 ∗ barPay c 1 ∗ barPay c 2 ∗ barPay c 3 ∗ barPay c 4 ∗ barPay c 5)
          ∗ bufPts c cc0_stg0_0 fullShare (xstg m ρ c) ∗ bufPts c cc0_stg2_0 fullShare (rstg m ρ c) ∗ bufPts c cc0_stg3_0 fullShare (wstg m ρ c)
          ∗ slotL m ρ c c 0 fullShare) -∗ Q ⟨(a34 m ρ c), (a36 m ρ c), (a39 m ρ c), (a50 c)⟩)
        -∗ WP c (k0_part2_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c (a2 c) (SemArray.scalar (sig.barrier 0 rfl) : Sems sig S_) (a25 c) 16#32) Q) := by
  unfold k0_part2_skel a50 a39 a36 a34
  simp only [semSignalWord, semWaitWord, storeSubelements, Prog.lift, Prog.bind_op, Prog.bind_ret, Prog.pure_eq_ret]
  simp only [dev5 c, dev6 c]
  iintro ⟨#HR, #Hlev, HO, Ht4, Ht5, H4, H5, Hc, Hat, Hx, Hr, Hw, ⟨%f, Hs⟩⟩ Hk
  iapply (step_signal m ρ K 4 [5, 6, 7, 8, 9, 10, 11] c (sh 8 c) 4 rfl rfl rfl) $$ [HO Ht4 H4]
  · isplitr; · iexact HR
    isplitl [HO]; · iexact HO
    isplitl [Ht4]; · iexact Ht4
    iapply (give4 c); iexact H4
  iintro HO
  iapply (step_signal m ρ K 5 [6, 7, 8, 9, 10, 11] c (sh 12 c) 5 rfl rfl rfl) $$ [HO Ht5 H5]
  · isplitr; · iexact HR
    isplitl [HO]; · iexact HO
    isplitl [Ht5]; · iexact Ht5
    iapply (give5 c); iexact H5
  iintro HO
  iapply (step_barrier m ρ K [6, 7, 8, 9, 10, 11] (by decide) c rfl (wpE_semWait_eq 𝒱₀ (c : Thread nD τ) none Set.univ)) $$ [Hc HO Hat]
  · isplitr; · iexact HR
    isplitr; · iexact Hlev
    isplitl [Hc]; · iexact Hc
    isplitl [HO]; · iexact HO
    iexact Hat
  iintro ⟨HO, Hat, Hp⟩
  iapply (load_x c (xstg m ρ c)) $$ Hx; iintro Hx
  iapply (load_r c (rstg m ρ c)) $$ Hr; iintro Hr
  iapply (load_w c (wstg m ρ c)) $$ Hw; iintro Hw
  iapply (step_peek c f 0 256 _) $$ Hs; iintro Hs
  iapply (step_store c f 0 256 _) $$ Hs; iintro Hs
  iapply (step_peek c _ 256 1 _) $$ Hs; iintro Hs
  iapply (step_peek c _ 256 2 _) $$ Hs; iintro Hs
  iapply (step_store c _ 256 2 _) $$ Hs; iintro Hs
  iapply (wp_done c _ Q)
  iapply Hk
  isplitl [HO]; · iexact HO
  isplitl [Hat]; · iexact Hat
  isplitl [Hp]; · iexact Hp
  isplitl [Hx]; · iexact Hx
  isplitl [Hr]; · iexact Hr
  isplitl [Hw]; · iexact Hw
  iapply (slotL_intro m ρ (stored_good m ρ c f _ _ _)) $$ Hs

end Cert.Moe

end
-- ==== Proof.BodyC.lean ====
/-
# 01_k — `BodyC`: the two phases of transfers
-/
module

public import proofs.«01_k».proof.Proof.BodyB

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-! The devices the transfers go to, as places round the ring. -/

/-- The target of the kernel's signal or copy number 7, by its distance around the sixteen devices. -/
theorem dev7 (c : Dev nD) : (⟨k0_dev7 c, k0_dev7_lt c⟩ : Dev nD) = sh 4 c := Fin.ext (k0_dev7_eq c)
/-- The target of the kernel's signal or copy number 8, by its distance around the sixteen devices. -/
theorem dev8 (c : Dev nD) : (⟨k0_dev8 c, k0_dev8_lt c⟩ : Dev nD) = sh 8 c := Fin.ext (k0_dev8_eq c)
/-- The target of the kernel's signal or copy number 9, by its distance around the sixteen devices. -/
theorem dev9 (c : Dev nD) : (⟨k0_dev9 c, k0_dev9_lt c⟩ : Dev nD) = sh 12 c := Fin.ext (k0_dev9_eq c)
/-- The target of the kernel's signal or copy number 10, by its distance around the sixteen devices. -/
theorem dev10 (c : Dev nD) : (⟨k0_dev10 c, k0_dev10_lt c⟩ : Dev nD) = sh 1 c := Fin.ext (k0_dev10_eq c)
/-- The target of the kernel's signal or copy number 11, by its distance around the sixteen devices. -/
theorem dev11 (c : Dev nD) : (⟨k0_dev11 c, k0_dev11_lt c⟩ : Dev nD) = sh 15 c := Fin.ext (k0_dev11_eq c)
/-- The target of the kernel's signal or copy number 12, by its distance around the sixteen devices. -/
theorem dev12 (c : Dev nD) : (⟨k0_dev12 c, k0_dev12_lt c⟩ : Dev nD) = sh 2 c := Fin.ext (k0_dev12_eq c)

/-- A slot of the assembly buffer, by the transfers' name for it. -/
theorem slotPts_eq (c : Dev nD) (j : Fin 4) (q : PosShare TreeShare) (f : S4x272x256.Idx → F .bf16) (h) :
    (slotPts c j q f : sProp 𝕄) = ((slotN j.val h).view.loc (c : Thread nD τ) ↦[(slotN j.val h).view.set]{q} f) := by
  rw [slotN_set]

/-- A slot or a buffer held, its contents forgotten. -/
theorem some_slot (c : Dev nD) (j : Fin 4) (q : PosShare TreeShare) (f : S4x272x256.Idx → F .bf16) :
    (slotPts c j q f : sProp 𝕄) ⊢ iprop(∃ f, slotPts c j q f) := by
  iintro H; iexists f; iexact H
/-- A buffer with known contents is a buffer with some contents. -/
theorem some_buf (c : Dev nD) (b : Ref sig .tc) (q : PosShare TreeShare) (f : Buf (Elt F) ((c : Thread nD τ).loc b)) :
    (bufPts c b q f : sProp 𝕄) ⊢ iprop(∃ f, bufPts c b q f) := by
  iintro H; iexists f; iexact H

/-- What a first-phase transfer leaves in the slot it lands in. -/
theorem slot_landed (c n : Dev nD) (j : Fin 4) (hnc : sh (4 * j.val) n = c) (f g : S4x272x256.Idx → F .bf16) (hf : Good m ρ c 0 f) (h h0) :
    ((slotN j.val h).view.loc (n : Thread nD τ) ↦[(slotN j.val h).view.set]{fullShare}
      ((slotN j.val h).view.write (Elt F) g ((slotN 0 h0).view.read (Elt F) f) Finset.univ) : sProp 𝕄) ⊢ landed m ρ n j := by
  have hg := good_landed m ρ c j h h0 f g hf
  generalize ((slotN j.val h).view.write (Elt F) g ((slotN 0 h0).view.read (Elt F) f) Finset.univ) = w at hg ⊢
  refine (Entails.of_eq (slotPts_eq n j fullShare w h).symm).trans ?_
  unfold landed
  iintro H
  iexists w
  isplitr
  · ipureintro; rw [hnc]; exact hg
  iexact H

/-- A first-phase transfer: slot 0 of device `c` to slot `j` of the device that reaches `c` in `4 * j` places. -/
theorem send_slot (jp : Fin 18) (l : List (Fin 18)) (c n : Dev nD) {n' : Dev nD} (hd : n' = n) (kS kT : Fin 13) (hS0 : kS.val ≠ 0) (hT0 : kT.val ≠ 0)
    (ht : tgt jp c = kcell n kT) (hj : payK jp = kT) (hN : amt kS = amt kT) (hA : kT.val ≤ 6) (j : Fin 4) (hnc : sh (4 * j.val) n = c)
    {nn : ℕ} (hn : nn = j.val) {h h0} {sS sem : DmaSem sig}
    {hsc : (show Memref sig (Dev.tc n' : Thread nD τ).2.kind .vmem S272x256 .bf16 from slotN nn h).view.ref.isScScratch = false}
    {hsrc : (slotN 0 h0).view.WordExact} {hdst : (slotN nn h).view.WordExact}
    {hsem : DmaTarget.Typed .vmem (.dma sem) (.remote (Dev.tc n' : Thread nD τ) (slotN nn h) (.dma sS) hsc)}
    (hkS : csem kS = .dma sS) (hkT : csem kT = .dma sem) (q : PosShare TreeShare) {G : sProp 𝕄}
    (hp1 : (iprop(∃ f, slotPts c 0 q f) : sProp 𝕄) ⊢ cpay m ρ c kS 0) (hp2 : iprop(landed m ρ n j ∗ G) ⊢ cpay m ρ n kT 0)
    {α : Type} {k : PUnit → Prog (TpuEff nD τ sig (Elt F) Λ₀ .tc) α} {Q : α → sProp 𝕄} :
    iprop(records m ρ K ∗ slotL m ρ c c 0 q ∗ (∃ f, slotPts n j fullShare f) ∗ G ∗ ow (jp :: l) c ∗ tok c kS 0 ∗ tok n kT 0)
      ⊢ iprop(((cred (tallyAt (kcell c kS) () (amt kS)) ∗ ow l c) -∗ WP c (k ⟨⟩) Q)
          -∗ WP c (.op (.enqueueDma (slotN 0 h0) (.remote (Dev.tc n' : Thread nD τ) (slotN nn h) (.dma sS) hsc) (.dma sem) hsrc hdst hsem) k) Q) := by
  subst hn hd
  unfold slotL
  iintro ⟨#HR, ⟨%f, %hf, Hs⟩, ⟨%g, Hd⟩, HG, HO, Ht1, Ht2⟩ Hk
  have hA' : (slotN j.val h).view.amount (.dma sem) = amt kT := (amt_slot kT hT0 hA j.val h).symm
  iapply (step_send m ρ K jp l c n' kS kT hS0 hT0 ht hj hN (src := slotN 0 h0) (dst := slotN j.val h) hkS hkT hA' (q := q) (fs := f) (fd := g) (G := G)
    ((Entails.of_eq (slotPts_eq c 0 q f h0).symm).trans ((some_slot c 0 q f).trans hp1))
    ((sep_mono_left (slot_landed m ρ c n' j hnc f g hf h h0)).trans hp2)) $$ [Hs Hd HG HO Ht1 Ht2]
  · isplitr; · iexact HR
    isplitl [Hs]; · iapply (Entails.of_eq (slotPts_eq c 0 q f h0)); iexact Hs
    isplitl [Hd HG]
    · isplitl [Hd]; · iapply (Entails.of_eq (slotPts_eq n' j fullShare g h)); iexact Hd
      iexact HG
    isplitl [HO]; · iexact HO
    isplitl [Ht1]; · iexact Ht1
    iexact Ht2
  iexact Hk

/-- The assembly buffer, by the transfers' names. -/
theorem whole0_eq (c : Dev nD) (q : PosShare TreeShare) (f : S4x272x256.Idx → F .bf16) :
    (bufPts c cc0_scratch0 q f : sProp 𝕄) = (asmM.view.loc (c : Thread nD τ) ↦[asmM.view.set]{q} f) := by
  rw [show (asmM : Memref sig .tc .vmem S4x272x256 .bf16).view.set = Finset.univ from View.set_whole _]

/-- A landing buffer or the assembly buffer, by the transfers' names. -/
theorem whole1_eq (c : Dev nD) (q : PosShare TreeShare) (f : S4x272x256.Idx → F .bf16) :
    (bufPts c cc0_scratch1 q f : sProp 𝕄) = (cw1M.view.loc (c : Thread nD τ) ↦[cw1M.view.set]{q} f) := by
  rw [show (cw1M : Memref sig .tc .vmem S4x272x256 .bf16).view.set = Finset.univ from View.set_whole _]

/-- What a second-phase transfer leaves in the landing buffer. -/
theorem whole_landed1 (c n : Dev nD) (f g : S4x272x256.Idx → F .bf16) (hf : Good4 m ρ c f) :
    (iprop((cw1M.view.loc (n : Thread nD τ) ↦[cw1M.view.set]{fullShare} (cw1M.view.write (Elt F) g (asmM.view.read (Elt F) f) Finset.univ)) ∗ emp) : sProp 𝕄)
      ⊢ ring1 m ρ n c := by
  rw [landed1 f g, ← whole1_eq n fullShare f]
  unfold ring1
  iintro ⟨H, -⟩
  iexists f
  isplitr; · ipureintro; exact hf
  iexact H

/-- A second-phase transfer: the whole assembly buffer of device `c` to a landing buffer of device `n`. -/
theorem send_whole1 (jp : Fin 18) (l : List (Fin 18)) (c n : Dev nD) {n' : Dev nD} (hd : n' = n) (kS kT : Fin 13) (hS0 : kS.val ≠ 0) (hT0 : kT.val ≠ 0)
    (ht : tgt jp c = kcell n kT) (hj : payK jp = kT) (hN : amt kS = amt kT) (hA : 6 < kT.val) {sS sem : DmaSem sig}
    {hsc : (show Memref sig (Dev.tc n' : Thread nD τ).2.kind .vmem S4x272x256 .bf16 from cw1M).view.ref.isScScratch = false}
    {hsrc : (asmM : Memref sig .tc .vmem S4x272x256 .bf16).view.WordExact} {hdst : (cw1M : Memref sig .tc .vmem S4x272x256 .bf16).view.WordExact}
    {hsem : DmaTarget.Typed .vmem (.dma sem) (.remote (Dev.tc n' : Thread nD τ) cw1M (.dma sS) hsc)}
    (hkS : csem kS = .dma sS) (hkT : csem kT = .dma sem) (q : PosShare TreeShare)
    (hp1 : (iprop(∃ f, bufPts c cc0_scratch0 q f) : sProp 𝕄) ⊢ cpay m ρ c kS 0) (hp2 : ring1 m ρ n c ⊢ cpay m ρ n kT 0)
    {α : Type} {k : PUnit → Prog (TpuEff nD τ sig (Elt F) Λ₀ .tc) α} {Q : α → sProp 𝕄} :
    iprop(records m ρ K ∗ (∃ f, ⌜Good4 m ρ c f⌝ ∗ bufPts c cc0_scratch0 q f) ∗ (∃ f, bufPts n cc0_scratch1 fullShare f) ∗ ow (jp :: l) c ∗ tok c kS 0 ∗ tok n kT 0)
      ⊢ iprop(((cred (tallyAt (kcell c kS) () (amt kS)) ∗ ow l c) -∗ WP c (k ⟨⟩) Q)
          -∗ WP c (.op (.enqueueDma asmM (.remote (Dev.tc n' : Thread nD τ) cw1M (.dma sS) hsc) (.dma sem) hsrc hdst hsem) k) Q) := by
  subst hd
  iintro ⟨#HR, ⟨%f, %hf, Hs⟩, ⟨%g, Hd⟩, HO, Ht1, Ht2⟩ Hk
  have hA' : (cw1M : Memref sig .tc .vmem S4x272x256 .bf16).view.amount (.dma sem) = amt kT := (amt_cw1 kT hA).symm
  iapply (step_send m ρ K jp l c n' kS kT hS0 hT0 ht hj hN (src := asmM) (dst := cw1M) hkS hkT hA' (q := q) (fs := f) (fd := g) (G := iprop(emp))
    ((Entails.of_eq (whole0_eq c q f).symm).trans ((some_buf c cc0_scratch0 q f).trans hp1))
    ((whole_landed1 m ρ c n' f g hf).trans hp2)) $$ [Hs Hd HO Ht1 Ht2]
  · isplitr; · iexact HR
    isplitl [Hs]
    · iapply (Entails.of_eq (whole0_eq c q f)); iexact Hs
    isplitl [Hd]
    · isplitl [Hd]
      · iapply (Entails.of_eq (whole1_eq n' fullShare g)); iexact Hd
      iempintro
    isplitl [HO]; · iexact HO
    isplitl [Ht1]; · iexact Ht1
    iexact Ht2
  iexact Hk

/-- A landing buffer or the assembly buffer, by the transfers' names. -/
theorem whole2_eq (c : Dev nD) (q : PosShare TreeShare) (f : S4x272x256.Idx → F .bf16) :
    (bufPts c cc0_scratch2 q f : sProp 𝕄) = (cw2M.view.loc (c : Thread nD τ) ↦[cw2M.view.set]{q} f) := by
  rw [show (cw2M : Memref sig .tc .vmem S4x272x256 .bf16).view.set = Finset.univ from View.set_whole _]

/-- What a second-phase transfer leaves in the landing buffer. -/
theorem whole_landed2 (c n : Dev nD) (f g : S4x272x256.Idx → F .bf16) (hf : Good4 m ρ c f) :
    (iprop((cw2M.view.loc (n : Thread nD τ) ↦[cw2M.view.set]{fullShare} (cw2M.view.write (Elt F) g (asmM.view.read (Elt F) f) Finset.univ)) ∗ emp) : sProp 𝕄)
      ⊢ ring2 m ρ n c := by
  rw [landed2 f g, ← whole2_eq n fullShare f]
  unfold ring2
  iintro ⟨H, -⟩
  iexists f
  isplitr; · ipureintro; exact hf
  iexact H

/-- A second-phase transfer: the whole assembly buffer of device `c` to a landing buffer of device `n`. -/
theorem send_whole2 (jp : Fin 18) (l : List (Fin 18)) (c n : Dev nD) {n' : Dev nD} (hd : n' = n) (kS kT : Fin 13) (hS0 : kS.val ≠ 0) (hT0 : kT.val ≠ 0)
    (ht : tgt jp c = kcell n kT) (hj : payK jp = kT) (hN : amt kS = amt kT) (hA : 6 < kT.val) {sS sem : DmaSem sig}
    {hsc : (show Memref sig (Dev.tc n' : Thread nD τ).2.kind .vmem S4x272x256 .bf16 from cw2M).view.ref.isScScratch = false}
    {hsrc : (asmM : Memref sig .tc .vmem S4x272x256 .bf16).view.WordExact} {hdst : (cw2M : Memref sig .tc .vmem S4x272x256 .bf16).view.WordExact}
    {hsem : DmaTarget.Typed .vmem (.dma sem) (.remote (Dev.tc n' : Thread nD τ) cw2M (.dma sS) hsc)}
    (hkS : csem kS = .dma sS) (hkT : csem kT = .dma sem) (q : PosShare TreeShare)
    (hp1 : (iprop(∃ f, bufPts c cc0_scratch0 q f) : sProp 𝕄) ⊢ cpay m ρ c kS 0) (hp2 : ring2 m ρ n c ⊢ cpay m ρ n kT 0)
    {α : Type} {k : PUnit → Prog (TpuEff nD τ sig (Elt F) Λ₀ .tc) α} {Q : α → sProp 𝕄} :
    iprop(records m ρ K ∗ (∃ f, ⌜Good4 m ρ c f⌝ ∗ bufPts c cc0_scratch0 q f) ∗ (∃ f, bufPts n cc0_scratch2 fullShare f) ∗ ow (jp :: l) c ∗ tok c kS 0 ∗ tok n kT 0)
      ⊢ iprop(((cred (tallyAt (kcell c kS) () (amt kS)) ∗ ow l c) -∗ WP c (k ⟨⟩) Q)
          -∗ WP c (.op (.enqueueDma asmM (.remote (Dev.tc n' : Thread nD τ) cw2M (.dma sS) hsc) (.dma sem) hsrc hdst hsem) k) Q) := by
  subst hd
  iintro ⟨#HR, ⟨%f, %hf, Hs⟩, ⟨%g, Hd⟩, HO, Ht1, Ht2⟩ Hk
  have hA' : (cw2M : Memref sig .tc .vmem S4x272x256 .bf16).view.amount (.dma sem) = amt kT := (amt_cw2 kT hA).symm
  iapply (step_send m ρ K jp l c n' kS kT hS0 hT0 ht hj hN (src := asmM) (dst := cw2M) hkS hkT hA' (q := q) (fs := f) (fd := g) (G := iprop(emp))
    ((Entails.of_eq (whole0_eq c q f).symm).trans ((some_buf c cc0_scratch0 q f).trans hp1))
    ((whole_landed2 m ρ c n' f g hf).trans hp2)) $$ [Hs Hd HO Ht1 Ht2]
  · isplitr; · iexact HR
    isplitl [Hs]
    · iapply (Entails.of_eq (whole0_eq c q f)); iexact Hs
    isplitl [Hd]
    · isplitl [Hd]
      · iapply (Entails.of_eq (whole2_eq n' fullShare g)); iexact Hd
      iempintro
    isplitl [HO]; · iexact HO
    isplitl [Ht1]; · iexact Ht1
    iexact Ht2
  iexact Hk

/-- A landing buffer or the assembly buffer, by the transfers' names. -/
theorem whole3_eq (c : Dev nD) (q : PosShare TreeShare) (f : S4x272x256.Idx → F .bf16) :
    (bufPts c cc0_scratch3 q f : sProp 𝕄) = (ccwM.view.loc (c : Thread nD τ) ↦[ccwM.view.set]{q} f) := by
  rw [show (ccwM : Memref sig .tc .vmem S4x272x256 .bf16).view.set = Finset.univ from View.set_whole _]

/-- What a second-phase transfer leaves in the landing buffer. -/
theorem whole_landed3 (c n : Dev nD) (f g : S4x272x256.Idx → F .bf16) (hf : Good4 m ρ c f) :
    (iprop((ccwM.view.loc (n : Thread nD τ) ↦[ccwM.view.set]{fullShare} (ccwM.view.write (Elt F) g (asmM.view.read (Elt F) f) Finset.univ)) ∗ emp) : sProp 𝕄)
      ⊢ ring3 m ρ n c := by
  rw [landed3 f g, ← whole3_eq n fullShare f]
  unfold ring3
  iintro ⟨H, -⟩
  iexists f
  isplitr; · ipureintro; exact hf
  iexact H

/-- A second-phase transfer: the whole assembly buffer of device `c` to a landing buffer of device `n`. -/
theorem send_whole3 (jp : Fin 18) (l : List (Fin 18)) (c n : Dev nD) {n' : Dev nD} (hd : n' = n) (kS kT : Fin 13) (hS0 : kS.val ≠ 0) (hT0 : kT.val ≠ 0)
    (ht : tgt jp c = kcell n kT) (hj : payK jp = kT) (hN : amt kS = amt kT) (hA : 6 < kT.val) {sS sem : DmaSem sig}
    {hsc : (show Memref sig (Dev.tc n' : Thread nD τ).2.kind .vmem S4x272x256 .bf16 from ccwM).view.ref.isScScratch = false}
    {hsrc : (asmM : Memref sig .tc .vmem S4x272x256 .bf16).view.WordExact} {hdst : (ccwM : Memref sig .tc .vmem S4x272x256 .bf16).view.WordExact}
    {hsem : DmaTarget.Typed .vmem (.dma sem) (.remote (Dev.tc n' : Thread nD τ) ccwM (.dma sS) hsc)}
    (hkS : csem kS = .dma sS) (hkT : csem kT = .dma sem) (q : PosShare TreeShare)
    (hp1 : (iprop(∃ f, bufPts c cc0_scratch0 q f) : sProp 𝕄) ⊢ cpay m ρ c kS 0) (hp2 : ring3 m ρ n c ⊢ cpay m ρ n kT 0)
    {α : Type} {k : PUnit → Prog (TpuEff nD τ sig (Elt F) Λ₀ .tc) α} {Q : α → sProp 𝕄} :
    iprop(records m ρ K ∗ (∃ f, ⌜Good4 m ρ c f⌝ ∗ bufPts c cc0_scratch0 q f) ∗ (∃ f, bufPts n cc0_scratch3 fullShare f) ∗ ow (jp :: l) c ∗ tok c kS 0 ∗ tok n kT 0)
      ⊢ iprop(((cred (tallyAt (kcell c kS) () (amt kS)) ∗ ow l c) -∗ WP c (k ⟨⟩) Q)
          -∗ WP c (.op (.enqueueDma asmM (.remote (Dev.tc n' : Thread nD τ) ccwM (.dma sS) hsc) (.dma sem) hsrc hdst hsem) k) Q) := by
  subst hd
  iintro ⟨#HR, ⟨%f, %hf, Hs⟩, ⟨%g, Hd⟩, HO, Ht1, Ht2⟩ Hk
  have hA' : (ccwM : Memref sig .tc .vmem S4x272x256 .bf16).view.amount (.dma sem) = amt kT := (amt_ccw kT hA).symm
  iapply (step_send m ρ K jp l c n' kS kT hS0 hT0 ht hj hN (src := asmM) (dst := ccwM) hkS hkT hA' (q := q) (fs := f) (fd := g) (G := iprop(emp))
    ((Entails.of_eq (whole0_eq c q f).symm).trans ((some_buf c cc0_scratch0 q f).trans hp1))
    ((whole_landed3 m ρ c n' f g hf).trans hp2)) $$ [Hs Hd HO Ht1 Ht2]
  · isplitr; · iexact HR
    isplitl [Hs]
    · iapply (Entails.of_eq (whole0_eq c q f)); iexact Hs
    isplitl [Hd]
    · isplitl [Hd]
      · iapply (Entails.of_eq (whole3_eq n' fullShare g)); iexact Hd
      iempintro
    isplitl [HO]; · iexact HO
    isplitl [Ht1]; · iexact Ht1
    iexact Ht2
  iexact Hk

end Cert.Moe

end
-- ==== Proof.BodyD.lean ====
/-
# 01_k — `BodyD`: the sections that send, and the waits for the transfers
-/
module

public import proofs.«01_k».proof.Proof.BodyC

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-- Two turns that add up to a multiple of sixteen undo one another. -/
theorem turn (a b : ℕ) (h : (b + a) % 16 = 0) (c : Dev nD) : sh a (sh b c) = c := by rw [sh_sh, sh_turn _ 0 h, sh_zero]

/-- The first phase's cells all count the bytes of one slot. -/
theorem amt_same (k k' : Fin 13) (h : k.val ≠ 0 ∧ k.val ≤ 6 ∧ k'.val ≠ 0 ∧ k'.val ≤ 6) : amt k = amt k' := by
  unfold amt; rw [if_neg h.1, if_neg h.2.2.1, if_pos h.2.1, if_pos h.2.2.2]
/-- The second phase's cells all count the bytes of a whole buffer. -/
theorem amt_same' (k k' : Fin 13) (h : 6 < k.val ∧ 6 < k'.val) : amt k = amt k' := (amt_w k h.1).trans (amt_w k' h.2).symm

/-- Slot 0's left half in the three shares the first phase lends. -/
theorem own_thirds (c : Dev nD) : slotL m ρ c c 0 fullShare
    ⊢ iprop((slotL m ρ c c 0 (shA 0) ∗ slotL m ρ c c 0 (shA 1) ∗ slotL m ρ c c 0 (shA 2)) ∗ slotL m ρ c c 0 (fullShare : PosShare TreeShare).right) := by
  unfold slotL
  iintro ⟨%f, %hf, H⟩
  ihave H' := (halves f fullShare).1 $$ H
  icases H' with ⟨Hl, Hr⟩
  ihave Hl' := (pointsTo_thirds _ _).1 $$ Hl
  icases Hl' with ⟨H0, H1, H2⟩
  isplitl [H0 H1 H2]
  · isplitl [H0]
    · iexists f; isplitr; · ipureintro; exact hf
      iexact H0
    isplitl [H1]
    · iexists f; isplitr; · ipureintro; exact hf
      iexact H1
    iexists f; isplitr; · ipureintro; exact hf
    iexact H2
  iexists f; isplitr; · ipureintro; exact hf
  iexact Hr

/-- A landed slot in two halves. -/
theorem landed_halves (c : Dev nD) (j : Fin 4) {n : ℕ} (hn : 4 * j.val = n) : landed m ρ c j
    ⊢ iprop(slotL m ρ c (sh n c) j (fullShare : PosShare TreeShare).left ∗ slotL m ρ c (sh n c) j (fullShare : PosShare TreeShare).right) := by
  subst hn
  unfold landed slotL
  iintro ⟨%f, %hf, H⟩
  ihave H' := (halves f fullShare).1 $$ H
  icases H' with ⟨Hl, Hr⟩
  isplitl [Hl]
  · iexists f; isplitr; · ipureintro; exact hf
    iexact Hl
  iexists f; isplitr; · ipureintro; exact hf
  iexact Hr

/-- The four slots' right halves, joined, in the three shares the second phase lends. -/
theorem asm_thirds (c : Dev nD) :
    iprop(slotL m ρ c c 0 (fullShare : PosShare TreeShare).right ∗ slotL m ρ c (sh 4 c) 1 (fullShare : PosShare TreeShare).right ∗ slotL m ρ c (sh 8 c) 2 (fullShare : PosShare TreeShare).right ∗ slotL m ρ c (sh 12 c) 3 (fullShare : PosShare TreeShare).right)
    ⊢ (iprop((∃ f, ⌜Good4 m ρ c f⌝ ∗ bufPts c cc0_scratch0 (shB 0) f) ∗ (∃ f, ⌜Good4 m ρ c f⌝ ∗ bufPts c cc0_scratch0 (shB 1) f)
        ∗ (∃ f, ⌜Good4 m ρ c f⌝ ∗ bufPts c cc0_scratch0 (shB 2) f)) : sProp 𝕄) := by
  unfold slotL
  iintro ⟨⟨%f0, %h0, H0⟩, ⟨%f1, %h1, H1⟩, ⟨%f2, %h2, H2⟩, ⟨%f3, %h3, H3⟩⟩
  ihave H := (asm_join m ρ c (fullShare : PosShare TreeShare).right f0 f1 f2 f3 (by rw [sh_zero]; exact h0) h1 h2 h3) $$ [H0 H1 H2 H3]
  · isplitl [H0]; · iexact H0
    isplitl [H1]; · iexact H1
    isplitl [H2]; · iexact H2
    iexact H3
  icases H with ⟨%f, %hf, H⟩
  ihave H' := (pointsTo_thirds _ _).1 $$ H
  icases H' with ⟨H0, H1, H2⟩
  isplitl [H0]
  · iexists f; isplitr; · ipureintro; exact hf
    iexact H0
  isplitl [H1]
  · iexists f; isplitr; · ipureintro; exact hf
    iexact H1
  iexists f; isplitr; · ipureintro; exact hf
  iexact H2

/-- What the third barrier signal hands over, by the name of the device that it belongs to. -/
theorem pass2 (c : Dev nD) : (barPay c 2 : sProp 𝕄) ⊢ iprop(∃ f, bufPts (sh 2 (sh 12 c)) cc0_scratch2 fullShare f) := by
  show iprop(∃ f, bufPts (sh 14 c) cc0_scratch2 fullShare f) ⊢ _
  rw [sh_sh]

/-- Section 3: slot 0 to the devices at distance 4 and 8. -/
theorem part3 (c : Dev nD) (Q : _ → sProp 𝕄) :
    iprop(records m ρ K ∗ ow [6, 7, 8, 9, 10, 11] c ∗ (slotL m ρ c c 0 (shA 0) ∗ slotL m ρ c c 0 (shA 1)) ∗ barPay c 5 ∗ barPay c 4
        ∗ (tok c 1 0 ∗ tok (sh 4 c) 6 0) ∗ tok c 2 0 ∗ tok (sh 8 c) 5 0)
      ⊢ iprop(((ow [8, 9, 10, 11] c ∗ cred (tallyAt (kcell c 1) () (amt 1)) ∗ cred (tallyAt (kcell c 2) () (amt 2))) -∗ Q ⟨⟩)
        -∗ WP c (k0_part3_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c (a2 c) (a50 c)) Q) := by
  unfold k0_part3_skel
  simp only [Prog.lift, Prog.bind_op, Prog.bind_ret, Prog.pure_eq_ret]
  iintro ⟨#HR, HO, ⟨Hs0, Hs1⟩, Hb5, Hb4, ⟨Ht1, Ht6⟩, Ht2, Ht5⟩ Hk
  ihave Hd3 := (Entails.of_eq (show barPay c 5 = iprop(∃ f, slotPts (sh 4 c) 3 fullShare f) from rfl)) $$ Hb5
  ihave Hd2 := (Entails.of_eq (show barPay c 4 = iprop(∃ f, slotPts (sh 8 c) 2 fullShare f) from rfl)) $$ Hb4
  iapply (send_slot m ρ K 6 [7, 8, 9, 10, 11] c (sh 4 c) (dev7 c) 1 6 (by decide) (by decide) rfl rfl (amt_same 1 6 (by decide)) (by decide) 3 (turn 12 4 (by decide) c) rfl sem_1 sem_6
      (shA 0) (G := iprop(emp)) (BI.Entails.refl _) Laws.sep_emp.1) $$ [Hs0 Hd3  HO Ht1 Ht6]
  · isplitr; · iexact HR
    isplitl [Hs0]; · iexact Hs0
    isplitl [Hd3]; · iexact Hd3
    isplitl []; · iempintro
    isplitl [HO]; · iexact HO
    isplitl [Ht1]; · iexact Ht1
    iexact Ht6
  iintro ⟨Hc1, HO⟩
  iapply (send_slot m ρ K 7 [8, 9, 10, 11] c (sh 8 c) (dev8 c) 2 5 (by decide) (by decide) rfl rfl (amt_same 2 5 (by decide)) (by decide) 2 (turn 8 8 (by decide) c) rfl sem_2 sem_5
      (shA 1) (G := iprop(emp)) (BI.Entails.refl _) Laws.sep_emp.1) $$ [Hs1 Hd2  HO Ht2 Ht5]
  · isplitr; · iexact HR
    isplitl [Hs1]; · iexact Hs1
    isplitl [Hd2]; · iexact Hd2
    isplitl []; · iempintro
    isplitl [HO]; · iexact HO
    isplitl [Ht2]; · iexact Ht2
    iexact Ht5
  iintro ⟨Hc2, HO⟩
  iapply (wp_done c _ Q)
  iapply Hk
  isplitl [HO]; · iexact HO
  isplitl [Hc1]; · iexact Hc1
  iexact Hc2

/-- Section 4: slot 0 to the device at distance 12, with the buffer that the device at distance 2 from there fills. -/
theorem part4 (c : Dev nD) (Q : _ → sProp 𝕄) :
    iprop(records m ρ K ∗ ow [8, 9, 10, 11] c ∗ slotL m ρ c c 0 (shA 2) ∗ barPay c 3 ∗ barPay c 2 ∗ tok c 3 0 ∗ tok (sh 12 c) 4 0)
      ⊢ iprop(((ow [9, 10, 11] c ∗ cred (tallyAt (kcell c 3) () (amt 3))) -∗ Q ⟨(a85 m ρ c), (a103 m ρ c), (a108 m ρ c), (a114 m ρ c), (a115 m ρ c)⟩)
        -∗ WP c (k0_part4_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c (a2 c) (a34 m ρ c) (a36 m ρ c) (a39 m ρ c)) Q) := by
  unfold k0_part4_skel a115 a114 a108 a103 a85
  simp only [Prog.lift, Prog.bind_op, Prog.bind_ret, Prog.pure_eq_ret]
  iintro ⟨#HR, HO, Hs, Hb3, Hb2, Ht3, Ht4⟩ Hk
  ihave Hd := (Entails.of_eq (show barPay c 3 = iprop(∃ f, slotPts (sh 12 c) 1 fullShare f) from rfl)) $$ Hb3
  ihave HG := (pass2 c) $$ Hb2
  iapply (send_slot m ρ K 8 [9, 10, 11] c (sh 12 c) (dev9 c) 3 4 (by decide) (by decide) rfl rfl (amt_same 3 4 (by decide)) (by decide) 1 (turn 4 12 (by decide) c) rfl sem_3 sem_4
      (shA 2) (G := iprop(∃ f, bufPts (sh 2 (sh 12 c)) cc0_scratch2 fullShare f)) (BI.Entails.refl _) (BI.Entails.refl _)) $$ [Hs Hd HG HO Ht3 Ht4]
  · isplitr; · iexact HR
    isplitl [Hs]; · iexact Hs
    isplitl [Hd]; · iexact Hd
    isplitl [HG]; · iexact HG
    isplitl [HO]; · iexact HO
    isplitl [Ht3]; · iexact Ht3
    iexact Ht4
  iintro ⟨Hc3, HO⟩
  iapply (wp_done c _ Q)
  iapply Hk
  isplitl [HO]; · iexact HO
  iexact Hc3

/-- Section 5: the waits for the three slots to land. -/
theorem part5 (c : Dev nD) (Q : _ → sProp 𝕄) :
    iprop(records m ρ K ∗ levAts L lv ∗ ow [9, 10, 11] c ∗ (cred (tallyAt (kcell c 4) () (amt 4)) ∗ cred (tallyAt (kcell c 5) () (amt 5)) ∗ cred (tallyAt (kcell c 6) () (amt 6))) ∗ atPos ER (kcell c 4) 0 ∅ 0 ∗ atPos ER (kcell c 5) 0 ∅ 0 ∗ atPos ER (kcell c 6) 0 ∅ 0)
      ⊢ iprop(((ow [9, 10, 11] c ∗ (atPos ER (kcell c 4) 1 ∅ 0 ∗ atPos ER (kcell c 5) 1 ∅ 0 ∗ atPos ER (kcell c 6) 1 ∅ 0) ∗ landed m ρ c 1 ∗ landed m ρ c 2 ∗ landed m ρ c 3
          ∗ ∃ f, bufPts (sh 2 c) cc0_scratch2 fullShare f) -∗ Q ⟨(a147 c), (a148 c), 0#32⟩)
        -∗ WP c (k0_part5_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a7 c)) Q) := by
  unfold k0_part5_skel a148 a147
  simp only [Prog.lift, Prog.bind_op, Prog.bind_ret, Prog.pure_eq_ret]
  iintro ⟨#HR, #Hlev, HO, ⟨Hc4, Hc5, Hc6⟩, Ha4, Ha5, Ha6⟩ Hk
  iapply (step_waitDma m ρ K 4 (by decide) [9, 10, 11] (by decide) c sem_4 (amt_slot 4 (by decide) (by decide) 1 _)) $$ [Hc4 HO Ha4]
  · isplitr; · iexact HR
    isplitr; · iexact Hlev
    isplitl [Hc4]; · iexact Hc4
    isplitl [HO]; · iexact HO
    iexact Ha4
  iintro ⟨HO, Ha4, Hp4⟩
  iapply (step_waitDma m ρ K 5 (by decide) [9, 10, 11] (by decide) c sem_5 (amt_slot 5 (by decide) (by decide) 2 _)) $$ [Hc5 HO Ha5]
  · isplitr; · iexact HR
    isplitr; · iexact Hlev
    isplitl [Hc5]; · iexact Hc5
    isplitl [HO]; · iexact HO
    iexact Ha5
  iintro ⟨HO, Ha5, Hp5⟩
  iapply (step_waitDma m ρ K 6 (by decide) [9, 10, 11] (by decide) c sem_6 (amt_slot 6 (by decide) (by decide) 3 _)) $$ [Hc6 HO Ha6]
  · isplitr; · iexact HR
    isplitr; · iexact Hlev
    isplitl [Hc6]; · iexact Hc6
    isplitl [HO]; · iexact HO
    iexact Ha6
  iintro ⟨HO, Ha6, Hp6⟩
  ihave Hp := (Entails.of_eq (show cpay m ρ c 4 0 = iprop(landed m ρ c 1 ∗ ∃ f, bufPts (sh 2 c) cc0_scratch2 fullShare f) from rfl)) $$ Hp4
  icases Hp with ⟨Hp4, Hb⟩
  ihave Hp5' := (Entails.of_eq (show cpay m ρ c 5 0 = landed m ρ c 2 from rfl)) $$ Hp5
  ihave Hp6' := (Entails.of_eq (show cpay m ρ c 6 0 = landed m ρ c 3 from rfl)) $$ Hp6
  iapply (wp_done c _ Q)
  iapply Hk
  isplitl [HO]; · iexact HO
  isplitl [Ha4 Ha5 Ha6]
  · isplitl [Ha4]; · iexact Ha4
    isplitl [Ha5]; · iexact Ha5
    iexact Ha6
  isplitl [Hp4]; · iexact Hp4
  isplitl [Hp5']; · iexact Hp5'
  isplitl [Hp6']; · iexact Hp6'
  iexact Hb

/-- Section 6: the assembled slots to the devices at distance 1, −1 and 2; then the first slot is read. -/
theorem part6 (c : Dev nD) (Q : _ → sProp 𝕄) :
    iprop(records m ρ K ∗ ow [9, 10, 11] c ∗ slotL m ρ c c 0 (fullShare : PosShare TreeShare).right ∗ (landed m ρ c 1 ∗ landed m ρ c 2 ∗ landed m ρ c 3)
        ∗ barPay c 0 ∗ barPay c 1 ∗ (∃ f, bufPts (sh 2 c) cc0_scratch2 fullShare f)
        ∗ (tok c 7 0 ∗ tok (sh 1 c) 9 0) ∗ (tok c 11 0 ∗ tok (sh 15 c) 12 0) ∗ tok c 8 0 ∗ tok (sh 2 c) 10 0)
      ⊢ iprop(((ow [] c ∗ (cred (tallyAt (kcell c 7) () (amt 7)) ∗ cred (tallyAt (kcell c 11) () (amt 11)) ∗ cred (tallyAt (kcell c 8) () (amt 8)))
          ∗ slotL m ρ c (sh 4 c) 1 (fullShare : PosShare TreeShare).left ∗ slotL m ρ c (sh 8 c) 2 (fullShare : PosShare TreeShare).left ∗ slotL m ρ c (sh 12 c) 3 (fullShare : PosShare TreeShare).left) -∗ Q ⟨(a187 m ρ c), (a188 c)⟩)
        -∗ WP c (k0_part6_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 c (a2 c) (a5 c) (a34 m ρ c) (a36 m ρ c) (a147 c) (a148 c) 0#32) Q) := by
  unfold k0_part6_skel a188 a187
  simp only [Prog.lift, Prog.bind_op, Prog.bind_ret, Prog.pure_eq_ret]
  iintro ⟨#HR, HO, Hs0, ⟨Hl1, Hl2, Hl3⟩, Hb0, Hb1, Hd2, ⟨Ht7, Ht9⟩, ⟨Ht11, Ht12⟩, Ht8, Ht10⟩ Hk
  ihave Hd1 := (Entails.of_eq (show barPay c 0 = iprop(∃ f, bufPts (sh 1 c) cc0_scratch1 fullShare f) from rfl)) $$ Hb0
  ihave Hd3 := (Entails.of_eq (show barPay c 1 = iprop(∃ f, bufPts (sh 15 c) cc0_scratch3 fullShare f) from rfl)) $$ Hb1
  ihave Hh1 := (landed_halves m ρ c 1 (n := 4) rfl) $$ Hl1
  ihave Hh2 := (landed_halves m ρ c 2 (n := 8) rfl) $$ Hl2
  ihave Hh3 := (landed_halves m ρ c 3 (n := 12) rfl) $$ Hl3
  icases Hh1 with ⟨HS1, Hr1⟩
  icases Hh2 with ⟨HS2, Hr2⟩
  icases Hh3 with ⟨HS3, Hr3⟩
  ihave HA := (asm_thirds m ρ c) $$ [Hs0 Hr1 Hr2 Hr3]
  · isplitl [Hs0]; · iexact Hs0
    isplitl [Hr1]; · iexact Hr1
    isplitl [Hr2]; · iexact Hr2
    iexact Hr3
  icases HA with ⟨HA0, HA1, HA2⟩
  iapply (send_whole1 m ρ K 9 [10, 11] c (sh 1 c) (dev10 c) 7 9 (by decide) (by decide) rfl rfl (amt_same' 7 9 (by decide)) (by decide) sem_7 sem_9
      (shB 0) (BI.Entails.refl _) (by rw [show ring1 m ρ (sh 1 c) c = ring1 m ρ (sh 1 c) (sh 15 (sh 1 c)) by rw [turn 15 1 (by decide) c]]; exact BI.Entails.refl _)) $$ [HA0 Hd1 HO Ht7 Ht9]
  · isplitr; · iexact HR
    isplitl [HA0]; · iexact HA0
    isplitl [Hd1]; · iexact Hd1
    isplitl [HO]; · iexact HO
    isplitl [Ht7]; · iexact Ht7
    iexact Ht9
  iintro ⟨Hc7, HO⟩
  iapply (send_whole3 m ρ K 10 [11] c (sh 15 c) (dev11 c) 11 12 (by decide) (by decide) rfl rfl (amt_same' 11 12 (by decide)) (by decide) sem_11 sem_12
      (shB 2) (BI.Entails.refl _) (by rw [show ring3 m ρ (sh 15 c) c = ring3 m ρ (sh 15 c) (sh 1 (sh 15 c)) by rw [turn 1 15 (by decide) c]]; exact BI.Entails.refl _)) $$ [HA2 Hd3 HO Ht11 Ht12]
  · isplitr; · iexact HR
    isplitl [HA2]; · iexact HA2
    isplitl [Hd3]; · iexact Hd3
    isplitl [HO]; · iexact HO
    isplitl [Ht11]; · iexact Ht11
    iexact Ht12
  iintro ⟨Hc11, HO⟩
  iapply (send_whole2 m ρ K 11 [] c (sh 2 c) (dev12 c) 8 10 (by decide) (by decide) rfl rfl (amt_same' 8 10 (by decide)) (by decide) sem_8 sem_10
      (shB 1) (BI.Entails.refl _) (by rw [show ring2 m ρ (sh 2 c) c = ring2 m ρ (sh 2 c) (sh 14 (sh 2 c)) by rw [turn 14 2 (by decide) c]]; exact BI.Entails.refl _)) $$ [HA1 Hd2 HO Ht8 Ht10]
  · isplitr; · iexact HR
    isplitl [HA1]; · iexact HA1
    isplitl [Hd2]; · iexact Hd2
    isplitl [HO]; · iexact HO
    isplitl [Ht8]; · iexact Ht8
    iexact Ht10
  iintro ⟨Hc8, HO⟩
  iapply (load_asm_w m ρ c (sh 4 c) 1 (fullShare : PosShare TreeShare).left rfl) $$ HS1; iintro HS1
  iapply (wp_done c _ Q)
  iapply Hk
  isplitl [HO]; · iexact HO
  isplitl [Hc7 Hc11 Hc8]
  · isplitl [Hc7]; · iexact Hc7
    isplitl [Hc11]; · iexact Hc11
    iexact Hc8
  isplitl [HS1]; · iexact HS1
  isplitl [HS2]; · iexact HS2
  iexact HS3

/-- Section 20: the first two sends of the first phase are through. -/
theorem part20 (c : Dev nD) (Q : _ → sProp 𝕄) :
    iprop(records m ρ K ∗ levAts L lv ∗ ow [] c ∗ (cred (tallyAt (kcell c 1) () (amt 1)) ∗ cred (tallyAt (kcell c 2) () (amt 2))) ∗ atPos ER (kcell c 1) 0 ∅ 0 ∗ atPos ER (kcell c 2) 0 ∅ 0)
      ⊢ iprop(((ow [] c ∗ (atPos ER (kcell c 1) 1 ∅ 0 ∗ atPos ER (kcell c 2) 1 ∅ 0) ∗ cpay m ρ c 1 0 ∗ cpay m ρ c 2 0) -∗ Q ⟨(a751 m ρ c), (a752 m ρ c)⟩)
        -∗ WP c (k0_part20_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a712 m ρ c) (a713 m ρ c) (a737 m ρ c) (a738 c) (a748 m ρ c)) Q) := by
  unfold k0_part20_skel a752 a751
  simp only [Prog.lift, Prog.bind_op, Prog.bind_ret, Prog.pure_eq_ret]
  iintro ⟨#HR, #Hlev, HO, ⟨Hc1, Hc2⟩, Ha1, Ha2⟩ Hk
  iapply (step_waitDma m ρ K 1 (by decide) [] (by simp) c sem_1 (amt_slot 1 (by decide) (by decide) 0 _)) $$ [Hc1 HO Ha1]
  · isplitr; · iexact HR
    isplitr; · iexact Hlev
    isplitl [Hc1]; · iexact Hc1
    isplitl [HO]; · iexact HO
    iexact Ha1
  iintro ⟨HO, Ha1, Hp1⟩
  iapply (step_waitDma m ρ K 2 (by decide) [] (by simp) c sem_2 (amt_slot 2 (by decide) (by decide) 0 _)) $$ [Hc2 HO Ha2]
  · isplitr; · iexact HR
    isplitr; · iexact Hlev
    isplitl [Hc2]; · iexact Hc2
    isplitl [HO]; · iexact HO
    iexact Ha2
  iintro ⟨HO, Ha2, Hp2⟩
  iapply (wp_done c _ Q)
  iapply Hk
  isplitl [HO]; · iexact HO
  isplitl [Ha1 Ha2]
  · isplitl [Ha1]; · iexact Ha1
    iexact Ha2
  isplitl [Hp1]; · iexact Hp1
  iexact Hp2

end Cert.Moe

end
-- ==== Proof.BodyA.lean ====
/-
# 01_k — `BodyA`: sections of the body that only read and wait
-/
module

public import proofs.«01_k».proof.Proof.Loads

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-- Section 7 of the body. -/
theorem part7 (c : Dev nD) (Q : _ → sProp 𝕄) :
    iprop(slotL m ρ c (sh 4 c) 1 (fullShare : PosShare TreeShare).left ∗ slotL m ρ c (sh 8 c) 2 (fullShare : PosShare TreeShare).left)
      ⊢ iprop(((slotL m ρ c (sh 4 c) 1 (fullShare : PosShare TreeShare).left ∗ slotL m ρ c (sh 8 c) 2 (fullShare : PosShare TreeShare).left) -∗ Q ⟨(a201 m ρ c), (a202 m ρ c), (a224 m ρ c), (a225 c), (a233 m ρ c)⟩)
        -∗ WP c (k0_part7_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a103 m ρ c) (a115 m ρ c) (a187 m ρ c) (a188 c)) Q) := by
  unfold k0_part7_skel
  unfold a233 a225 a224 a202 a201
  simp only [Prog.lift, Prog.bind_op, Prog.bind_ret, Prog.pure_eq_ret]
  iintro ⟨HS1, HS2⟩ Hk
  iapply (load_asm_r m ρ c (sh 4 c) 1 (fullShare : PosShare TreeShare).left rfl) $$ HS1; iintro HS1
  iapply (load_asm_w m ρ c (sh 8 c) 2 (fullShare : PosShare TreeShare).left rfl) $$ HS2; iintro HS2
  iapply (load_asm_r m ρ c (sh 8 c) 2 (fullShare : PosShare TreeShare).left rfl) $$ HS2; iintro HS2
  iapply (wp_done c _ Q)
  iapply Hk
  isplitl [HS1]; · iexact HS1
  iexact HS2

/-- Section 8 of the body. -/
theorem part8 (c : Dev nD) (Q : _ → sProp 𝕄) :
    iprop(slotL m ρ c (sh 12 c) 3 (fullShare : PosShare TreeShare).left)
      ⊢ iprop((slotL m ρ c (sh 12 c) 3 (fullShare : PosShare TreeShare).left -∗ Q ⟨(a275 m ρ c), (a276 m ρ c)⟩)
        -∗ WP c (k0_part8_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a201 m ρ c) (a202 m ρ c) (a224 m ρ c) (a225 c) (a233 m ρ c)) Q) := by
  unfold k0_part8_skel
  unfold a276 a275
  simp only [Prog.lift, Prog.bind_op, Prog.bind_ret, Prog.pure_eq_ret]
  iintro HS3 Hk
  iapply (load_asm_w m ρ c (sh 12 c) 3 (fullShare : PosShare TreeShare).left rfl) $$ HS3; iintro HS3
  iapply (load_asm_r m ρ c (sh 12 c) 3 (fullShare : PosShare TreeShare).left rfl) $$ HS3; iintro HS3
  iapply (wp_done c _ Q)
  iapply Hk
  iexact HS3

/-- Section 9 of the body. -/
theorem part9 (c : Dev nD) (Q : _ → sProp 𝕄) :
    iprop(records m ρ K ∗ levAts L lv ∗ cred (tallyAt (kcell c 9) () (amt 9)) ∗ ow [] c ∗ atPos ER (kcell c 9) 0 ∅ 0)
      ⊢ iprop(((ow [] c ∗ atPos ER (kcell c 9) 1 ∅ 0 ∗ ring1 m ρ c (sh 15 c)) -∗ Q ⟨(a317 m ρ c), (a318 m ρ c)⟩)
        -∗ WP c (k0_part9_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a7 c) (a34 m ρ c) (a36 m ρ c) (a85 m ρ c) (a275 m ρ c)) Q) := by
  unfold k0_part9_skel
  unfold a318 a317
  simp only [Prog.lift, Prog.bind_op, Prog.bind_ret, Prog.pure_eq_ret]
  iintro ⟨#HR, #Hlev, Hc, HO, Hat⟩ Hk
  iapply (step_waitDma m ρ K 9 (by decide) [] (by simp) c sem_9 (amt_cw1 9 (by decide))) $$ [Hc HO Hat]
  · isplitr; · iexact HR
    isplitr; · iexact Hlev
    isplitl [Hc]; · iexact Hc
    isplitl [HO]; · iexact HO
    iexact Hat
  iintro ⟨HO, Hat, Hring1⟩
  ihave Hring1 := (Entails.of_eq (show cpay m ρ c 9 0 = ring1 m ρ c (sh 15 c) from rfl)) $$ Hring1
  iapply (load_ring1_w m ρ c (sh 15 c) 0 rfl rfl) $$ Hring1; iintro Hring1
  iapply (load_ring1_r m ρ c (sh 15 c) 0 rfl rfl) $$ Hring1; iintro Hring1
  iapply (wp_done c _ Q)
  iapply Hk
  isplitl [HO]; · iexact HO
  isplitl [Hat]; · iexact Hat
  iexact Hring1

/-- Section 10 of the body. -/
theorem part10 (c : Dev nD) (Q : _ → sProp 𝕄) :
    iprop(ring1 m ρ c (sh 15 c))
      ⊢ iprop((ring1 m ρ c (sh 15 c) -∗ Q ⟨(a357 m ρ c), (a358 m ρ c), (a360 c), 16#32⟩)
        -∗ WP c (k0_part10_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a276 m ρ c) (a317 m ρ c) (a318 m ρ c)) Q) := by
  unfold k0_part10_skel
  unfold a360 a358 a357
  simp only [Prog.lift, Prog.bind_op, Prog.bind_ret, Prog.pure_eq_ret]
  iintro Hring1 Hk
  iapply (load_ring1_w m ρ c (sh 15 c) 1 rfl rfl) $$ Hring1; iintro Hring1
  iapply (load_ring1_r m ρ c (sh 15 c) 1 rfl rfl) $$ Hring1; iintro Hring1
  iapply (wp_done c _ Q)
  iapply Hk
  iexact Hring1

/-- Section 11 of the body. -/
theorem part11 (c : Dev nD) (Q : _ → sProp 𝕄) :
    iprop(ring1 m ρ c (sh 15 c))
      ⊢ iprop((ring1 m ρ c (sh 15 c) -∗ Q ⟨(a396 m ρ c), (a397 m ρ c), (a401 c)⟩)
        -∗ WP c (k0_part11_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a357 m ρ c) (a358 m ρ c) (a360 c) 16#32) Q) := by
  unfold k0_part11_skel
  unfold a401 a397 a396
  simp only [Prog.lift, Prog.bind_op, Prog.bind_ret, Prog.pure_eq_ret]
  iintro Hring1 Hk
  iapply (load_ring1_w m ρ c (sh 15 c) 2 rfl rfl) $$ Hring1; iintro Hring1
  iapply (load_ring1_r m ρ c (sh 15 c) 2 rfl rfl) $$ Hring1; iintro Hring1
  iapply (wp_done c _ Q)
  iapply Hk
  iexact Hring1

/-- Section 12 of the body. -/
theorem part12 (c : Dev nD) (Q : _ → sProp 𝕄) :
    iprop(records m ρ K ∗ levAts L lv ∗ ring1 m ρ c (sh 15 c) ∗ cred (tallyAt (kcell c 12) () (amt 12)) ∗ ow [] c ∗ atPos ER (kcell c 12) 0 ∅ 0)
      ⊢ iprop(((ring1 m ρ c (sh 15 c) ∗ ow [] c ∗ atPos ER (kcell c 12) 1 ∅ 0 ∗ ring3 m ρ c (sh 1 c)) -∗ Q ⟨(a435 m ρ c), (a436 m ρ c), (a443 c)⟩)
        -∗ WP c (k0_part12_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a5 c) (a34 m ρ c) (a36 m ρ c) (a85 m ρ c) (a396 m ρ c) (a397 m ρ c) (a401 c)) Q) := by
  unfold k0_part12_skel
  unfold a443 a436 a435
  simp only [Prog.lift, Prog.bind_op, Prog.bind_ret, Prog.pure_eq_ret]
  iintro ⟨#HR, #Hlev, Hring1, Hc, HO, Hat⟩ Hk
  iapply (load_ring1_w m ρ c (sh 15 c) 3 rfl rfl) $$ Hring1; iintro Hring1
  iapply (load_ring1_r m ρ c (sh 15 c) 3 rfl rfl) $$ Hring1; iintro Hring1
  iapply (step_waitDma m ρ K 12 (by decide) [] (by simp) c sem_12 (amt_ccw 12 (by decide))) $$ [Hc HO Hat]
  · isplitr; · iexact HR
    isplitr; · iexact Hlev
    isplitl [Hc]; · iexact Hc
    isplitl [HO]; · iexact HO
    iexact Hat
  iintro ⟨HO, Hat, Hring3⟩
  ihave Hring3 := (Entails.of_eq (show cpay m ρ c 12 0 = ring3 m ρ c (sh 1 c) from rfl)) $$ Hring3
  iapply (wp_done c _ Q)
  iapply Hk
  isplitl [Hring1]; · iexact Hring1
  isplitl [HO]; · iexact HO
  isplitl [Hat]; · iexact Hat
  iexact Hring3

/-- Section 13 of the body. -/
theorem part13 (c : Dev nD) (Q : _ → sProp 𝕄) :
    iprop(ring3 m ρ c (sh 1 c))
      ⊢ iprop((ring3 m ρ c (sh 1 c) -∗ Q ⟨(a477 m ρ c), (a478 m ρ c), (a481 c), (a483 m ρ c), (a484 c), (a487 m ρ c)⟩)
        -∗ WP c (k0_part13_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a435 m ρ c) (a436 m ρ c) (a443 c)) Q) := by
  unfold k0_part13_skel
  unfold a487 a484 a483 a481 a478 a477
  simp only [Prog.lift, Prog.bind_op, Prog.bind_ret, Prog.pure_eq_ret]
  iintro Hring3 Hk
  iapply (load_ring3_w m ρ c (sh 1 c) 0 rfl rfl) $$ Hring3; iintro Hring3
  iapply (load_ring3_r m ρ c (sh 1 c) 0 rfl rfl) $$ Hring3; iintro Hring3
  iapply (load_ring3_w m ρ c (sh 1 c) 1 rfl rfl) $$ Hring3; iintro Hring3
  iapply (wp_done c _ Q)
  iapply Hk
  iexact Hring3

/-- Section 14 of the body. -/
theorem part14 (c : Dev nD) (Q : _ → sProp 𝕄) :
    iprop(ring3 m ρ c (sh 1 c))
      ⊢ iprop((ring3 m ρ c (sh 1 c) -∗ Q ⟨(a515 m ρ c), (a516 m ρ c), (a519 c), (a521 m ρ c), (a527 m ρ c), (a532 m ρ c)⟩)
        -∗ WP c (k0_part14_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a477 m ρ c) (a478 m ρ c) (a481 c) (a483 m ρ c) (a484 c) (a487 m ρ c)) Q) := by
  unfold k0_part14_skel
  unfold a532 a527 a521 a519 a516 a515
  simp only [Prog.lift, Prog.bind_op, Prog.bind_ret, Prog.pure_eq_ret]
  iintro Hring3 Hk
  iapply (load_ring3_r m ρ c (sh 1 c) 1 rfl rfl) $$ Hring3; iintro Hring3
  iapply (load_ring3_w m ρ c (sh 1 c) 2 rfl rfl) $$ Hring3; iintro Hring3
  iapply (wp_done c _ Q)
  iapply Hk
  iexact Hring3

/-- Section 15 of the body. -/
theorem part15 (c : Dev nD) (Q : _ → sProp 𝕄) :
    iprop(ring3 m ρ c (sh 1 c))
      ⊢ iprop((ring3 m ρ c (sh 1 c) -∗ Q ⟨(a553 m ρ c), (a554 m ρ c), (a557 c), (a577 m ρ c)⟩)
        -∗ WP c (k0_part15_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a515 m ρ c) (a516 m ρ c) (a519 c) (a521 m ρ c) (a527 m ρ c) (a532 m ρ c)) Q) := by
  unfold k0_part15_skel
  unfold a577 a557 a554 a553
  simp only [Prog.lift, Prog.bind_op, Prog.bind_ret, Prog.pure_eq_ret]
  iintro Hring3 Hk
  iapply (load_ring3_r m ρ c (sh 1 c) 2 rfl rfl) $$ Hring3; iintro Hring3
  iapply (load_ring3_w m ρ c (sh 1 c) 3 rfl rfl) $$ Hring3; iintro Hring3
  iapply (wp_done c _ Q)
  iapply Hk
  iexact Hring3

/-- Section 16 of the body. -/
theorem part16 (c : Dev nD) (Q : _ → sProp 𝕄) :
    iprop(records m ρ K ∗ levAts L lv ∗ ring3 m ρ c (sh 1 c) ∗ cred (tallyAt (kcell c 10) () (amt 10)) ∗ ow [] c ∗ atPos ER (kcell c 10) 0 ∅ 0)
      ⊢ iprop(((ring3 m ρ c (sh 1 c) ∗ ow [] c ∗ atPos ER (kcell c 10) 1 ∅ 0 ∗ ring2 m ρ c (sh 14 c)) -∗ Q ⟨(a591 m ρ c), (a592 m ρ c), (a600 c), (a602 m ρ c), (a616 m ρ c), (a618 m ρ c)⟩)
        -∗ WP c (k0_part16_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a147 c) (a553 m ρ c) (a554 m ρ c) (a557 c) (a577 m ρ c)) Q) := by
  unfold k0_part16_skel
  unfold a618 a616 a602 a600 a592 a591
  simp only [Prog.lift, Prog.bind_op, Prog.bind_ret, Prog.pure_eq_ret]
  iintro ⟨#HR, #Hlev, Hring3, Hc, HO, Hat⟩ Hk
  iapply (load_ring3_r m ρ c (sh 1 c) 3 rfl rfl) $$ Hring3; iintro Hring3
  iapply (step_waitDma m ρ K 10 (by decide) [] (by simp) c sem_10 (amt_cw2 10 (by decide))) $$ [Hc HO Hat]
  · isplitr; · iexact HR
    isplitr; · iexact Hlev
    isplitl [Hc]; · iexact Hc
    isplitl [HO]; · iexact HO
    iexact Hat
  iintro ⟨HO, Hat, Hring2⟩
  ihave Hring2 := (Entails.of_eq (show cpay m ρ c 10 0 = ring2 m ρ c (sh 14 c) from rfl)) $$ Hring2
  iapply (load_ring2_w m ρ c (sh 14 c) 0 rfl rfl) $$ Hring2; iintro Hring2
  iapply (wp_done c _ Q)
  iapply Hk
  isplitl [Hring3]; · iexact Hring3
  isplitl [HO]; · iexact HO
  isplitl [Hat]; · iexact Hat
  iexact Hring2

/-- Section 17 of the body. -/
theorem part17 (c : Dev nD) (Q : _ → sProp 𝕄) :
    iprop(ring2 m ρ c (sh 14 c))
      ⊢ iprop((ring2 m ρ c (sh 14 c) -∗ Q ⟨(a634 m ρ c), (a635 m ρ c), (a659 m ρ c), (a660 c)⟩)
        -∗ WP c (k0_part17_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a591 m ρ c) (a592 m ρ c) (a600 c) (a602 m ρ c) (a616 m ρ c) (a618 m ρ c)) Q) := by
  unfold k0_part17_skel
  unfold a660 a659 a635 a634
  simp only [Prog.lift, Prog.bind_op, Prog.bind_ret, Prog.pure_eq_ret]
  iintro Hring2 Hk
  iapply (load_ring2_r m ρ c (sh 14 c) 0 rfl rfl) $$ Hring2; iintro Hring2
  iapply (load_ring2_w m ρ c (sh 14 c) 1 rfl rfl) $$ Hring2; iintro Hring2
  iapply (wp_done c _ Q)
  iapply Hk
  iexact Hring2

/-- Section 18 of the body. -/
theorem part18 (c : Dev nD) (Q : _ → sProp 𝕄) :
    iprop(ring2 m ρ c (sh 14 c))
      ⊢ iprop((ring2 m ρ c (sh 14 c) -∗ Q ⟨(a673 m ρ c), (a674 m ρ c), (a698 m ρ c), (a699 c), (a703 m ρ c), (a704 m ρ c)⟩)
        -∗ WP c (k0_part18_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a634 m ρ c) (a635 m ρ c) (a659 m ρ c) (a660 c)) Q) := by
  unfold k0_part18_skel
  unfold a704 a703 a699 a698 a674 a673
  simp only [Prog.lift, Prog.bind_op, Prog.bind_ret, Prog.pure_eq_ret]
  iintro Hring2 Hk
  iapply (load_ring2_r m ρ c (sh 14 c) 1 rfl rfl) $$ Hring2; iintro Hring2
  iapply (load_ring2_w m ρ c (sh 14 c) 2 rfl rfl) $$ Hring2; iintro Hring2
  iapply (load_ring2_r m ρ c (sh 14 c) 2 rfl rfl) $$ Hring2; iintro Hring2
  iapply (wp_done c _ Q)
  iapply Hk
  iexact Hring2

/-- Section 19 of the body. -/
theorem part19 (c : Dev nD) (Q : _ → sProp 𝕄) :
    iprop(ring2 m ρ c (sh 14 c))
      ⊢ iprop((ring2 m ρ c (sh 14 c) -∗ Q ⟨(a712 m ρ c), (a713 m ρ c), (a737 m ρ c), (a738 c), (a748 m ρ c)⟩)
        -∗ WP c (k0_part19_skel (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 (a2 c) (a34 m ρ c) (a36 m ρ c) (a85 m ρ c) (a673 m ρ c) (a674 m ρ c) (a698 m ρ c) (a699 c) (a703 m ρ c) (a704 m ρ c)) Q) := by
  unfold k0_part19_skel
  unfold a748 a738 a737 a713 a712
  simp only [Prog.lift, Prog.bind_op, Prog.bind_ret, Prog.pure_eq_ret]
  iintro Hring2 Hk
  iapply (load_ring2_w m ρ c (sh 14 c) 3 rfl rfl) $$ Hring2; iintro Hring2
  iapply (load_ring2_r m ρ c (sh 14 c) 3 rfl rfl) $$ Hring2; iintro Hring2
  iapply (wp_done c _ Q)
  iapply Hk
  iexact Hring2

end Cert.Moe

end
-- ==== Proof.BodyE.lean ====
/-
# 01_k — `BodyE`: the whole body
-/
module

public import proofs.«01_k».proof.Proof.BodyD
public import proofs.«01_k».proof.Proof.BodyA

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 13 → ℕ)

/-! ## Giving the lent shares back -/

/-- Two holders of one element set at joining shares hold it at the joined share. -/
theorem rejoin {ℓ : Loc nD τ sig} {I : Finset (Idx ℓ)} {q₁ q₂ q : PosShare TreeShare} (h : q ∈ Idealize.SL.RA.PCS.op q₁ q₂) :
    iprop((∃ f, ℓ ↦[I]{q₁} f) ∗ (∃ f, ℓ ↦[I]{q₂} f)) ⊢ (iprop(∃ f, ℓ ↦[I]{q} f) : sProp 𝕄) := by
  iintro ⟨⟨%f, H1⟩, ⟨%g, H2⟩⟩
  ihave H := (persistent_entails_right (pointsTo_agree (ℓ := ℓ) (I := I) (J := I) (q₁ := q₁) (q₂ := q₂) (f := f) (g := g))) $$ [H1 H2]
  · isplitl [H1]; · iexact H1
    iexact H2
  icases H with ⟨%hfg, H1, H2⟩
  iexists f
  iapply (pointsTo_share h).2
  isplitl [H1]; · iexact H1
  iapply (Entails.of_eq (pointsTo_congr fun i hi => ((hfg i (Finset.mem_inter.2 ⟨hi, hi⟩)).1).symm))
  iexact H2

/-- Three shares of one region, each with some contents, make the whole share. -/
theorem rejoin3 {ℓ : Loc nD τ sig} {I : Finset (Idx ℓ)} (q : PosShare TreeShare) :
    iprop((∃ f, ℓ ↦[I]{shares3 q 0} f) ∗ (∃ f, ℓ ↦[I]{shares3 q 1} f) ∗ (∃ f, ℓ ↦[I]{shares3 q 2} f)) ⊢ (iprop(∃ f, ℓ ↦[I]{q} f) : sProp 𝕄) := by
  iintro ⟨H0, H1, H2⟩
  iapply (rejoin (PosShare.mem_left_op_right q))
  isplitl [H0]; · iexact H0
  iapply (rejoin (PosShare.mem_left_op_right q.right))
  isplitl [H1]; · iexact H1
  iexact H2

/-- A separating product over 4 indices, written out. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- A separating product over 13 indices, written out. -/
theorem bigSep_fin13 (Φ : Fin 13 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
/-- A separating product over 18 indices, written out. -/
theorem bigSep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ

/-- Four slots, whatever they hold, are the whole assembly buffer. -/
theorem slots_join (c : Dev nD) (q : PosShare TreeShare) :
    iprop((∃ f, slotPts c 0 q f) ∗ (∃ f, slotPts c 1 q f) ∗ (∃ f, slotPts c 2 q f) ∗ (∃ f, slotPts c 3 q f))
      ⊢ (iprop(∃ f, bufPts c cc0_scratch0 q f) : sProp 𝕄) := by
  iintro ⟨⟨%f0, H0⟩, ⟨%f1, H1⟩, ⟨%f2, H2⟩, ⟨%f3, H3⟩⟩
  have hd : ∀ t ∈ (Finset.univ : Finset (Fin 4)), ∀ t' ∈ (Finset.univ : Finset (Fin 4)), t ≠ t' → Disjoint (slotSet t) (slotSet t') :=
    fun t ht t' ht' hne => slots_disj ht ht' hne
  have hj := pointsTo_biUnion_join (Val := Elt F) (Ix := Unit) (Name := ℕ) (U := UU) (Lvl := ℕ) (ℓ := ((c : Thread nD τ).loc cc0_scratch0)) (q := q)
    (Finset.univ : Finset (Fin 4)) slotSet (fun | 0 => f0 | 1 => f1 | 2 => f2 | 3 => f3 : Fin 4 → S4x272x256.Idx → F .bf16) f0 hd
  rw [slots_union, bigSep_fin4] at hj
  ihave H := hj $$ [H0 H1 H2 H3]
  · isplitl [H0]; · iexact H0
    isplitl [H1]; · iexact H1
    isplitl [H2]; · iexact H2
    iexact H3
  icases H with ⟨%g, -, H⟩
  iexists g
  iexact H

/-- A slot with known contents is a slot with some contents. -/
theorem slotL_some (c d : Dev nD) (j : Fin 4) (q : PosShare TreeShare) : slotL m ρ c d j q ⊢ iprop(∃ f, slotPts c j q f) := by
  unfold slotL
  iintro ⟨%f, -, H⟩
  iexists f; iexact H

/-- Landing buffer 1 with known contents is that buffer with some contents. -/
theorem ring1_some (c d : Dev nD) : ring1 m ρ c d ⊢ iprop(∃ f, bufPts c cc0_scratch1 fullShare f) := by
  unfold ring1
  iintro ⟨%f, -, H⟩
  iexists f; iexact H

/-- Landing buffer 2 with known contents is that buffer with some contents. -/
theorem ring2_some (c d : Dev nD) : ring2 m ρ c d ⊢ iprop(∃ f, bufPts c cc0_scratch2 fullShare f) := by
  unfold ring2
  iintro ⟨%f, -, H⟩
  iexists f; iexact H

/-- Landing buffer 3 with known contents is that buffer with some contents. -/
theorem ring3_some (c d : Dev nD) : ring3 m ρ c d ⊢ iprop(∃ f, bufPts c cc0_scratch3 fullShare f) := by
  unfold ring3
  iintro ⟨%f, -, H⟩
  iexists f; iexact H

/-! What the six sends of the assembly buffer give back, written out. -/

/-- The send cell 1 gives back the share of the buffer that its copy was reading. -/
theorem back1 (c : Dev nD) : cpay m ρ c 1 0 ⊢ iprop(∃ f, slotPts c 0 (shares3 (fullShare : PosShare TreeShare).left 0) f) := Entails.of_eq rfl
/-- The send cell 2 gives back the share of the buffer that its copy was reading. -/
theorem back2 (c : Dev nD) : cpay m ρ c 2 0 ⊢ iprop(∃ f, slotPts c 0 (shares3 (fullShare : PosShare TreeShare).left 1) f) := Entails.of_eq rfl
/-- The send cell 3 gives back the share of the buffer that its copy was reading. -/
theorem back3 (c : Dev nD) : cpay m ρ c 3 0 ⊢ iprop(∃ f, slotPts c 0 (shares3 (fullShare : PosShare TreeShare).left 2) f) := Entails.of_eq rfl
/-- The send cell 7 gives back the share of the buffer that its copy was reading. -/
theorem back7 (c : Dev nD) : cpay m ρ c 7 0 ⊢ iprop(∃ f, bufPts c cc0_scratch0 (shares3 (fullShare : PosShare TreeShare).right 0) f) := Entails.of_eq rfl
/-- The send cell 8 gives back the share of the buffer that its copy was reading. -/
theorem back8 (c : Dev nD) : cpay m ρ c 8 0 ⊢ iprop(∃ f, bufPts c cc0_scratch0 (shares3 (fullShare : PosShare TreeShare).right 1) f) := Entails.of_eq rfl
/-- The send cell 11 gives back the share of the buffer that its copy was reading. -/
theorem back11 (c : Dev nD) : cpay m ρ c 11 0 ⊢ iprop(∃ f, bufPts c cc0_scratch0 (shares3 (fullShare : PosShare TreeShare).right 2) f) := Entails.of_eq rfl

/-- The assembly buffer, from what was kept of it and what its six sends gave back. -/
theorem asm_back (c : Dev nD) :
    iprop((cpay m ρ c 1 0 ∗ cpay m ρ c 2 0 ∗ cpay m ρ c 3 0)
        ∗ (slotL m ρ c (sh 4 c) 1 (fullShare : PosShare TreeShare).left ∗ slotL m ρ c (sh 8 c) 2 (fullShare : PosShare TreeShare).left ∗ slotL m ρ c (sh 12 c) 3 (fullShare : PosShare TreeShare).left)
        ∗ cpay m ρ c 7 0 ∗ cpay m ρ c 8 0 ∗ cpay m ρ c 11 0)
      ⊢ (iprop(∃ f, bufPts c cc0_scratch0 fullShare f) : sProp 𝕄) := by
  iintro ⟨⟨H0, H1, H2⟩, ⟨HS1, HS2, HS3⟩, H3, H4, H5⟩
  iapply (rejoin (PosShare.mem_left_op_right fullShare))
  isplitl [H0 H1 H2 HS1 HS2 HS3]
  · iapply (slots_join c (fullShare : PosShare TreeShare).left)
    isplitl [H0 H1 H2]
    · iapply (rejoin3 (fullShare : PosShare TreeShare).left)
      isplitl [H0]; · iapply (back1 m ρ c) $$ H0
      isplitl [H1]; · iapply (back2 m ρ c) $$ H1
      iapply (back3 m ρ c) $$ H2
    isplitl [HS1]; · iapply (slotL_some m ρ c (sh 4 c) 1 _) $$ HS1
    isplitl [HS2]; · iapply (slotL_some m ρ c (sh 8 c) 2 _) $$ HS2
    iapply (slotL_some m ρ c (sh 12 c) 3 _) $$ HS3
  · iapply (rejoin3 (fullShare : PosShare TreeShare).right)
    isplitl [H3]; · iapply (back7 m ρ c) $$ H3
    isplitl [H4]; · iapply (back8 m ρ c) $$ H4
    iapply (back11 m ρ c) $$ H5

/-- The result's block is stored whole. -/
theorem store_o (c : Dev nD) (f : (cc0_stg4_0 : Ref sig .tc).ty.Contents (Elt F)) {h} {w : FVec F S256x256 .f32}
    {hs : ((Memref.whole cc0_stg4_0 : Memref sig .tc .vmem S256x256 .f32).access (Rect.unit (s := S256x256) ![0, 0] S256x256.size h) : View sig .tc _ _ _).Stores Finset.univ} {hx}
    {α : Type} {k : PUnit → Prog (TpuEff nD τ sig (Elt F) Λ₀ .tc) α} {Q : α → sProp 𝕄} :
    bufPts c cc0_stg4_0 fullShare f ⊢ iprop((bufPts c cc0_stg4_0 fullShare w -∗ WP c (k ⟨⟩) Q)
      -∗ WP c (.op (.store (Memref.whole cc0_stg4_0) (Rect.unit (s := S256x256) ![0, 0] S256x256.size h) w Finset.univ hs hx) k) Q) := by
  iintro H Hk
  iapply (wp_store 𝒱₀ (c : Thread nD τ) none Set.univ (m := Memref.whole cc0_stg4_0) (r := Rect.unit (s := S256x256) ![0, 0] S256x256.size h)
    (Mk := Finset.univ) (f := f) (Finset.subset_univ _)) $$ H
  iintro H
  rw [show ((Memref.whole cc0_stg4_0 : Memref sig .tc .vmem S256x256 .f32).access (Rect.unit (s := S256x256) ![0, 0] S256x256.size h) : View sig .tc _ _ _).write (Elt F) f w Finset.univ = w from
    Memref.write_access_unit_zero_univ (Elt F) cc0_stg4_0 hz2 _ f w]
  iapply Hk
  iexact H

/-- What the body of device `c` starts from, next to the schedule's records and the levels: what it owes, the tokens of its
    payments, its place at each of its cells, the credit of the cells others pay. -/
def bodyGhost (c : Dev nD) : sProp 𝕄 :=
  iprop(ow [0, 1, 2, 3, 4, 5, 6, 7, 8, 9, 10, 11] c
    ∗ (bigSep Finset.univ fun j : Fin 18 => dutyTok ER (tgt j c) 0 (payD j))
    ∗ (bigSep Finset.univ fun k : Fin 13 => atPos ER (kcell c k) 0 ∅ 0)
    ∗ (cred (tallyAt (kcell c 0) () 6) ∗ cred (tallyAt (kcell c 4) () (amt 4)) ∗ cred (tallyAt (kcell c 5) () (amt 5)) ∗ cred (tallyAt (kcell c 6) () (amt 6)) ∗ cred (tallyAt (kcell c 9) () (amt 9)) ∗ cred (tallyAt (kcell c 10) () (amt 10)) ∗ cred (tallyAt (kcell c 12) () (amt 12))))

/-- The four buffers of the protocol, whatever they hold. -/
def bufs (c : Dev nD) : sProp 𝕄 :=
  iprop((∃ f, bufPts c cc0_scratch0 fullShare f) ∗ (∃ f, bufPts c cc0_scratch1 fullShare f) ∗ (∃ f, bufPts c cc0_scratch2 fullShare f) ∗ (∃ f, bufPts c cc0_scratch3 fullShare f))

/-- The thirteen counters of device `c`, at zero. -/
def zeros (c : Dev nD) : sProp 𝕄 := bigSep Finset.univ fun k : Fin 13 => semVal (kcell c k) 0

/-- When every cell's only round is over, all thirteen counters are zero. -/
theorem close_all (c : Dev nD) :
    iprop(records m ρ K ∗ bigSep Finset.univ fun k : Fin 13 => atPos ER (kcell c k) 1 ∅ 0) ⊢ |={Set.univ}=> zeros c := by
  unfold zeros
  iintro ⟨#HR, H⟩
  iapply bigSep_fupd
  iapply (bigSep_with_persistent (R := records m ρ K) fun k _ => step_close m ρ K c k)
  isplitr; · iexact HR
  iexact H

/-- The last six payments go to the device's own cells. -/
theorem tgt12 (c : Dev nD) : tgt 12 c = kcell c 1 := congrArg (kcell · 1) (sh_zero c)
/-- Payment 13 is made to a send cell of the device itself. -/
theorem tgt13 (c : Dev nD) : tgt 13 c = kcell c 2 := congrArg (kcell · 2) (sh_zero c)
/-- Payment 14 is made to a send cell of the device itself. -/
theorem tgt14 (c : Dev nD) : tgt 14 c = kcell c 3 := congrArg (kcell · 3) (sh_zero c)
/-- Payment 15 is made to a send cell of the device itself. -/
theorem tgt15 (c : Dev nD) : tgt 15 c = kcell c 7 := congrArg (kcell · 7) (sh_zero c)
/-- Payment 16 is made to a send cell of the device itself. -/
theorem tgt16 (c : Dev nD) : tgt 16 c = kcell c 8 := congrArg (kcell · 8) (sh_zero c)
/-- Payment 17 is made to a send cell of the device itself. -/
theorem tgt17 (c : Dev nD) : tgt 17 c = kcell c 11 := congrArg (kcell · 11) (sh_zero c)

set_option maxHeartbeats 4000000 in
/-- The body of device `c`, section by section. -/
theorem sound_body (c : Dev nD) (Kt : PUnit → sProp 𝕄) :
    iprop(records m ρ K ∗ levAts L lv ∗ bodyGhost c ∗ bufs c
        ∗ bufPts c cc0_stg0_0 fullShare (xstg m ρ c) ∗ bufPts c cc0_stg2_0 fullShare (rstg m ρ c) ∗ bufPts c cc0_stg3_0 fullShare (wstg m ρ c)
        ∗ (∃ f, bufPts c cc0_stg4_0 fullShare f))
      ⊢ iprop(((ow [] c ∗ zeros c ∗ bufs c
          ∗ bufPts c cc0_stg0_0 fullShare (xstg m ρ c) ∗ bufPts c cc0_stg2_0 fullShare (rstg m ρ c) ∗ bufPts c cc0_stg3_0 fullShare (wstg m ρ c)
          ∗ bufPts c cc0_stg4_0 fullShare (outAt m ρ c)) -∗ Kt ⟨⟩)
        -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) Kt) := by
  simp only [cc0_body_eq_skeleton]; unfold cc0_body_skel
  simp only [k0_part21_eq_skeleton]; unfold k0_part21_skel
  simp only [wp_bind, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold bodyGhost bufs
  rw [bigSep_fin18, bigSep_fin13, tgt12, tgt13, tgt14, tgt15, tgt16, tgt17]
  iintro ⟨#HR, #Hlev, ⟨HO, ⟨Ht0, Ht1, Ht2, Ht3, Ht4, Ht5, Ht6, Ht7, Ht8, Ht9, Ht10, Ht11, Ht12, Ht13, Ht14, Ht15, Ht16, Ht17⟩, ⟨Ha0, Ha1, Ha2, Ha3, Ha4, Ha5, Ha6, Ha7, Ha8, Ha9, Ha10, Ha11, Ha12⟩, Hc0, Hc4, Hc5, Hc6, Hc9, Hc10, Hc12⟩, ⟨⟨%f0, Hb0⟩, Hb1, Hb2, Hb3⟩, Hx, Hr, Hw, ⟨%fo, Hout⟩⟩ Hk
  ihave Hsl := (asm_split c fullShare f0) $$ Hb0
  icases Hsl with ⟨Hs0, Hs1, Hs2, Hs3⟩
  -- section 1
  iapply (part1 m ρ K c _) $$ [HO Ht0 Ht1 Ht2 Ht3 Hb1 Hb3 Hb2 Hs1]
  · isplitr; · iexact HR
    isplitl [HO]
    · iexact HO
    isplitl [Ht0]
    · iexact Ht0
    isplitl [Ht1]
    · iexact Ht1
    isplitl [Ht2]
    · iexact Ht2
    isplitl [Ht3]
    · iexact Ht3
    isplitl [Hb1]
    · iexact Hb1
    isplitl [Hb3]
    · iexact Hb3
    isplitl [Hb2]
    · iexact Hb2
    iexists _; iexact Hs1
  iintro HO
  try simp only [wp_bind, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 2
  iapply (part2 m ρ K c _) $$ [HO Ht4 Ht5 Hs2 Hs3 Hc0 Ha0 Hx Hr Hw Hs0]
  · isplitr; · iexact HR
    isplitr; · iexact Hlev
    isplitl [HO]
    · iexact HO
    isplitl [Ht4]
    · iexact Ht4
    isplitl [Ht5]
    · iexact Ht5
    isplitl [Hs2]
    · iexists _; iexact Hs2
    isplitl [Hs3]
    · iexists _; iexact Hs3
    isplitl [Hc0]
    · iexact Hc0
    isplitl [Ha0]
    · iexact Ha0
    isplitl [Hx]
    · iexact Hx
    isplitl [Hr]
    · iexact Hr
    isplitl [Hw]
    · iexact Hw
    iexists _; iexact Hs0
  iintro ⟨HO, Ha0, ⟨Hp0, Hp1, Hp2, Hp3, Hp4, Hp5⟩, Hx, Hr, Hw, Hs⟩
  try simp only [wp_bind, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  ihave Hs' := (own_thirds m ρ c) $$ Hs
  icases Hs' with ⟨⟨Hs0, Hs1, Hs2⟩, Hsr⟩
  -- section 3
  iapply (part3 m ρ K c _) $$ [HO Hs0 Hs1 Hp5 Hp4 Ht12 Ht6 Ht13 Ht7]
  · isplitr; · iexact HR
    isplitl [HO]
    · iexact HO
    isplitl [Hs0 Hs1]
    · isplitl [Hs0]
      · iexact Hs0
      iexact Hs1
    isplitl [Hp5]
    · iexact Hp5
    isplitl [Hp4]
    · iexact Hp4
    isplitl [Ht12 Ht6]
    · isplitl [Ht12]
      · iexact Ht12
      iexact Ht6
    isplitl [Ht13]
    · iexact Ht13
    iexact Ht7
  iintro ⟨HO, Hc1, Hc2⟩
  try simp only [wp_bind, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 4
  iapply (part4 m ρ K c _) $$ [HO Hs2 Hp3 Hp2 Ht14 Ht8]
  · isplitr; · iexact HR
    isplitl [HO]
    · iexact HO
    isplitl [Hs2]
    · iexact Hs2
    isplitl [Hp3]
    · iexact Hp3
    isplitl [Hp2]
    · iexact Hp2
    isplitl [Ht14]
    · iexact Ht14
    iexact Ht8
  iintro ⟨HO, Hc3⟩
  try simp only [wp_bind, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 5
  iapply (part5 m ρ K c _) $$ [HO Hc4 Hc5 Hc6 Ha4 Ha5 Ha6]
  · isplitr; · iexact HR
    isplitr; · iexact Hlev
    isplitl [HO]
    · iexact HO
    isplitl [Hc4 Hc5 Hc6]
    · isplitl [Hc4]
      · iexact Hc4
      isplitl [Hc5]
      · iexact Hc5
      iexact Hc6
    isplitl [Ha4]
    · iexact Ha4
    isplitl [Ha5]
    · iexact Ha5
    iexact Ha6
  iintro ⟨HO, ⟨Ha4, Ha5, Ha6⟩, Hl1, Hl2, Hl3, Hd2⟩
  try simp only [wp_bind, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 6
  iapply (part6 m ρ K c _) $$ [HO Hsr Hl1 Hl2 Hl3 Hp0 Hp1 Hd2 Ht15 Ht9 Ht17 Ht10 Ht16 Ht11]
  · isplitr; · iexact HR
    isplitl [HO]
    · iexact HO
    isplitl [Hsr]
    · iexact Hsr
    isplitl [Hl1 Hl2 Hl3]
    · isplitl [Hl1]
      · iexact Hl1
      isplitl [Hl2]
      · iexact Hl2
      iexact Hl3
    isplitl [Hp0]
    · iexact Hp0
    isplitl [Hp1]
    · iexact Hp1
    isplitl [Hd2]
    · iexact Hd2
    isplitl [Ht15 Ht9]
    · isplitl [Ht15]
      · iexact Ht15
      iexact Ht9
    isplitl [Ht17 Ht10]
    · isplitl [Ht17]
      · iexact Ht17
      iexact Ht10
    isplitl [Ht16]
    · iexact Ht16
    iexact Ht11
  iintro ⟨HO, ⟨Hc7, Hc11, Hc8⟩, HS1, HS2, HS3⟩
  try simp only [wp_bind, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 7
  iapply (part7 m ρ c _) $$ [HS1 HS2]
  · isplitl [HS1]
    · iexact HS1
    iexact HS2
  iintro ⟨HS1, HS2⟩
  try simp only [wp_bind, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 8
  iapply (part8 m ρ c _) $$ [HS3]
  · iexact HS3
  iintro HS3
  try simp only [wp_bind, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 9
  iapply (part9 m ρ K c _) $$ [Hc9 HO Ha9]
  · isplitr; · iexact HR
    isplitr; · iexact Hlev
    isplitl [Hc9]
    · iexact Hc9
    isplitl [HO]
    · iexact HO
    iexact Ha9
  iintro ⟨HO, Ha9, Hring1⟩
  try simp only [wp_bind, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 10
  iapply (part10 m ρ c _) $$ [Hring1]
  · iexact Hring1
  iintro Hring1
  try simp only [wp_bind, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 11
  iapply (part11 m ρ c _) $$ [Hring1]
  · iexact Hring1
  iintro Hring1
  try simp only [wp_bind, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  -- section 12
  iapply (part12 m ρ K c _) $$ [Hring1 Hc12 HO Ha12]
  · isplitr; · iexact HR
    isplitr; · iexact Hlev
    isplitl [Hring1]
    · iexact Hring1
    isplitl [Hc12]
    · iexact Hc12
    isplitl [HO]
    · iexact HO
    iexact Ha12
  iintro ⟨Hring1, HO, Ha12, Hring3⟩
  try simp only [wp_bind, k0_part13_eq_skeleton, k0_part14_eq_skeleton, k0_part15_eq_skeleton, k0_part16_eq_skeleton, k0_part17_eq_skeleton, k0_part18_eq_skeleton, k0_part19_eq_skeleton, k0_part20_eq_skeleton]
  -- section 13
  iapply (part13 m ρ c _) $$ [Hring3]
  · iexact Hring3
  iintro Hring3
  try simp only [wp_bind, k0_part14_eq_skeleton, k0_part15_eq_skeleton, k0_part16_eq_skeleton, k0_part17_eq_skeleton, k0_part18_eq_skeleton, k0_part19_eq_skeleton, k0_part20_eq_skeleton]
  -- section 14
  iapply (part14 m ρ c _) $$ [Hring3]
  · iexact Hring3
  iintro Hring3
  try simp only [wp_bind, k0_part15_eq_skeleton, k0_part16_eq_skeleton, k0_part17_eq_skeleton, k0_part18_eq_skeleton, k0_part19_eq_skeleton, k0_part20_eq_skeleton]
  -- section 15
  iapply (part15 m ρ c _) $$ [Hring3]
  · iexact Hring3
  iintro Hring3
  try simp only [wp_bind, k0_part16_eq_skeleton, k0_part17_eq_skeleton, k0_part18_eq_skeleton, k0_part19_eq_skeleton, k0_part20_eq_skeleton]
  -- section 16
  iapply (part16 m ρ K c _) $$ [Hring3 Hc10 HO Ha10]
  · isplitr; · iexact HR
    isplitr; · iexact Hlev
    isplitl [Hring3]
    · iexact Hring3
    isplitl [Hc10]
    · iexact Hc10
    isplitl [HO]
    · iexact HO
    iexact Ha10
  iintro ⟨Hring3, HO, Ha10, Hring2⟩
  try simp only [wp_bind, k0_part17_eq_skeleton, k0_part18_eq_skeleton, k0_part19_eq_skeleton, k0_part20_eq_skeleton]
  -- section 17
  iapply (part17 m ρ c _) $$ [Hring2]
  · iexact Hring2
  iintro Hring2
  try simp only [wp_bind, k0_part18_eq_skeleton, k0_part19_eq_skeleton, k0_part20_eq_skeleton]
  -- section 18
  iapply (part18 m ρ c _) $$ [Hring2]
  · iexact Hring2
  iintro Hring2
  try simp only [wp_bind, k0_part19_eq_skeleton, k0_part20_eq_skeleton]
  -- section 19
  iapply (part19 m ρ c _) $$ [Hring2]
  · iexact Hring2
  iintro Hring2
  try simp only [wp_bind, k0_part20_eq_skeleton]
  -- section 20
  iapply (part20 m ρ K c _) $$ [HO Hc1 Hc2 Ha1 Ha2]
  · isplitr; · iexact HR
    isplitr; · iexact Hlev
    isplitl [HO]
    · iexact HO
    isplitl [Hc1 Hc2]
    · isplitl [Hc1]
      · iexact Hc1
      iexact Hc2
    isplitl [Ha1]
    · iexact Ha1
    iexact Ha2
  iintro ⟨HO, ⟨Ha1, Ha2⟩, Hq1, Hq2⟩
  simp only [Prog.lift, Prog.bind_op, Prog.bind_ret, Prog.pure_eq_ret]
  -- the rest of the sends are through; the result is stored
  iapply (step_waitDma m ρ K 3 (by decide) [] (by simp) c sem_3 (amt_slot 3 (by decide) (by decide) 0 _)) $$ [Hc3 HO Ha3]
  · isplitr; · iexact HR
    isplitr; · iexact Hlev
    isplitl [Hc3]; · iexact Hc3
    isplitl [HO]; · iexact HO
    iexact Ha3
  iintro ⟨HO, Ha3, Hq3⟩
  iapply (wp_done c _ _)
  iapply (step_waitDma m ρ K 7 (by decide) [] (by simp) c sem_7 (amt_asm 7 (by decide))) $$ [Hc7 HO Ha7]
  · isplitr; · iexact HR
    isplitr; · iexact Hlev
    isplitl [Hc7]; · iexact Hc7
    isplitl [HO]; · iexact HO
    iexact Ha7
  iintro ⟨HO, Ha7, Hq7⟩
  iapply (wp_done c _ _)
  iapply (step_waitDma m ρ K 8 (by decide) [] (by simp) c sem_8 (amt_asm 8 (by decide))) $$ [Hc8 HO Ha8]
  · isplitr; · iexact HR
    isplitr; · iexact Hlev
    isplitl [Hc8]; · iexact Hc8
    isplitl [HO]; · iexact HO
    iexact Ha8
  iintro ⟨HO, Ha8, Hq8⟩
  iapply (wp_done c _ _)
  iapply (step_waitDma m ρ K 11 (by decide) [] (by simp) c sem_11 (amt_asm 11 (by decide))) $$ [Hc11 HO Ha11]
  · isplitr; · iexact HR
    isplitr; · iexact Hlev
    isplitl [Hc11]; · iexact Hc11
    isplitl [HO]; · iexact HO
    iexact Ha11
  iintro ⟨HO, Ha11, Hq11⟩
  iapply (wp_done c _ _)
  iapply (load_o c fo) $$ Hout; iintro Hout
  iapply (wp_done c _ _)
  iapply (store_o c fo) $$ Hout; iintro Hout
  imod (close_all m ρ K c) $$ [Ha0 Ha1 Ha2 Ha3 Ha4 Ha5 Ha6 Ha7 Ha8 Ha9 Ha10 Ha11 Ha12] with Hz
  · isplitr; · iexact HR
    rw [bigSep_fin13]
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    isplitl [Ha11]; · iexact Ha11
    iexact Ha12
  ihave Hb0 := (asm_back m ρ c) $$ [Hq1 Hq2 Hq3 HS1 HS2 HS3 Hq7 Hq8 Hq11]
  · isplitl [Hq1 Hq2 Hq3]
    · isplitl [Hq1]
      · iexact Hq1
      isplitl [Hq2]
      · iexact Hq2
      iexact Hq3
    isplitl [HS1 HS2 HS3]
    · isplitl [HS1]
      · iexact HS1
      isplitl [HS2]
      · iexact HS2
      iexact HS3
    isplitl [Hq7]
    · iexact Hq7
    isplitl [Hq8]
    · iexact Hq8
    iexact Hq11
  iapply (wp_done c _ _)
  iapply (wp_done c _ _)
  iapply (wp_done c _ Kt)
  iapply Hk
  isplitl [HO]; · iexact HO
  isplitl [Hz]; · iexact Hz
  isplitl [Hb0 Hring1 Hring2 Hring3]
  · isplitl [Hb0]; · iexact Hb0
    isplitl [Hring1]; · iapply (ring1_some m ρ c (sh 15 c)) $$ Hring1
    isplitl [Hring2]; · iapply (ring2_some m ρ c (sh 14 c)) $$ Hring2
    iapply (ring3_some m ρ c (sh 1 c)) $$ Hring3
  isplitl [Hx]; · iexact Hx
  isplitl [Hr]; · iexact Hr
  isplitl [Hw]; · iexact Hw
  unfold outAt
  iexact Hout

end Cert.Moe

end
-- ==== Proof.Region.lean ====
/-
# 01_k — `Region`: from the body to the run of the kernel on every device
-/
module

public import proofs.«01_k».proof.Proof.BodyE
public import Idealize.ShloMosaic.Lib.Pipeline.CollectiveSegs

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (shares3 pointsTo_thirds)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the one point of the pipeline takes and leaves -/

/-- The protocol's share of device `c` that is neither its debt nor a credit: the tokens of its payments, its places. -/
def linear (c : Dev nD) : sProp 𝕄 :=
  iprop((bigSep Finset.univ fun k : Fin 13 => atPos ER (kcell c k) 0 ∅ 0) ∗ bigSep Finset.univ fun j : Fin 18 => dutyTok ER (tgt j c) 0 (payD j))

/-- The credit of the cells of device `c` that others pay. -/
def credits (c : Dev nD) : sProp 𝕄 :=
  iprop(cred (tallyAt (kcell c 0) () 6) ∗ cred (tallyAt (kcell c 4) () (amt 4)) ∗ cred (tallyAt (kcell c 5) () (amt 5)) ∗ cred (tallyAt (kcell c 6) () (amt 6)) ∗ cred (tallyAt (kcell c 9) () (amt 9)) ∗ cred (tallyAt (kcell c 10) () (amt 10)) ∗ cred (tallyAt (kcell c 12) () (amt 12)))

/-- What the launch leaves with device `c`. -/
def dealt (c : Dev nD) : sProp 𝕄 := iprop(∃ K, records m ρ K ∗ linear c)

def start (c : Dev nD) : sProp 𝕄 := iprop(dealt m ρ c ∗ credits c ∗ levAts L lv)

def Φ₀ (c : Dev nD) : sProp 𝕄 := iprop(start m ρ c ∗ bufs c)
def Φ₁ (c : Dev nD) : sProp 𝕄 := iprop(bufs c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rtr m ρ c
    | ⟨2, _⟩ => rstg m ρ c
    | ⟨3, _⟩ => wstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Owning a whole buffer at given contents is holding it with those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ bufPts c b fullShare f) := by
  unfold owns; simp only [Memref.view_whole, View.read_whole, View.set_whole]

/-- A staging buffer of device `c` at known contents. -/
abbrev stg (c : Dev nD) (b : Ref sig .tc) (X : b.ty.Contents (Elt F)) : sProp 𝕄 :=
  iprop(∃ f : Buf (Elt F) ((c : Thread nD τ).loc b), ⌜f = X⌝ ∗ bufPts c b fullShare f)

/-- A staging buffer at known contents, as a buffer. -/
theorem stg_elim (c : Dev nD) (b : Ref sig .tc) (X : b.ty.Contents (Elt F)) : stg c b X ⊢ bufPts c b fullShare X := by
  iintro ⟨%f, %hf, H⟩; subst hf; iexact H
/-- A buffer with known contents, as a staging buffer. -/
theorem stg_intro (c : Dev nD) (b : Ref sig .tc) (X : b.ty.Contents (Elt F)) : bufPts c b fullShare X ⊢ stg c b X := by
  iintro H; iexists X; isplitr; · ipureintro; rfl
  iexact H

set_option maxRecDepth 4000 in
def pre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 4000 in
def post (c : Dev nD) : sProp 𝕄 :=
  iprop(Φ₁ c ∗ (dats m ρ 0 c).owesAt () t0_0.succ
    ∗ stg c cc0_stg0_0 (xstg m ρ c)
    ∗ stg c cc0_stg1_0 (rtr m ρ c)
    ∗ stg c cc0_stg2_0 (rstg m ρ c)
    ∗ stg c cc0_stg3_0 (wstg m ρ c)
    ∗ stg c cc0_stg4_0 (outAt m ρ c))

/-- Before the body, window 0 of device `c` holds its tokens. -/
theorem before0 (c : Dev nD) (d) : (dats m ρ 0 c).before (0 : Fin 5) t0_0 d = xstg m ρ c := by
  unfold Dat.before; rw [if_pos (fetch0_0 t0_0)]; rfl
/-- Before the body, window 1 of device `c` holds its router weights. -/
theorem before1 (c : Dev nD) (d) : (dats m ρ 0 c).before (1 : Fin 5) t0_0 d = rtr m ρ c := by
  unfold Dat.before; rw [if_pos (fetch0_1 t0_0)]; rfl
/-- Before the body, window 2 of device `c` holds its routes. -/
theorem before2 (c : Dev nD) (d) : (dats m ρ 0 c).before (2 : Fin 5) t0_0 d = rstg m ρ c := by
  unfold Dat.before; rw [if_pos (fetch0_2 t0_0)]; rfl
/-- Before the body, window 3 of device `c` holds its experts. -/
theorem before3 (c : Dev nD) (d) : (dats m ρ 0 c).before (3 : Fin 5) t0_0 d = wstg m ρ c := by
  unfold Dat.before; rw [if_pos (fetch0_3 t0_0)]; rfl

/-- What the launch hands the body, piece by piece. -/
theorem pre_staged (c : Dev nD) : pre m ρ c
    ⊢ iprop(Φ₀ m ρ c ∗ ow [0, 1, 2, 3, 4, 5, 6, 7, 8, 9, 10, 11] c ∗ bufPts c cc0_stg0_0 fullShare (xstg m ρ c) ∗ bufPts c cc0_stg1_0 fullShare (rtr m ρ c)
        ∗ bufPts c cc0_stg2_0 fullShare (rstg m ρ c) ∗ bufPts c cc0_stg3_0 fullShare (wstg m ρ c) ∗ ∃ f, bufPts c cc0_stg4_0 fullShare f) := by
  unfold pre Dat.owesAt Pipeline.owesWithin
  rw [show (dats m ρ 0 c).owed t0_0.castSucc = O₀ c from rfl]
  iintro ⟨HΦ, ⟨%W, -, HO⟩, ⟨%d0, H0⟩, ⟨%d1, H1⟩, ⟨%d2, H2⟩, ⟨%d3, H3⟩, %d4, %f4, -, H4⟩
  rw [before0, before1, before2, before3]
  isplitl [HΦ]; · iexact HΦ
  isplitl [HO]; · unfold ow; iexists W; iexact HO
  isplitl [H0]; · iapply (stg_elim c cc0_stg0_0 (xstg m ρ c)); iexact H0
  isplitl [H1]; · iapply (stg_elim c cc0_stg1_0 (rtr m ρ c)); iexact H1
  isplitl [H2]; · iapply (stg_elim c cc0_stg2_0 (rstg m ρ c)); iexact H2
  isplitl [H3]; · iapply (stg_elim c cc0_stg3_0 (wstg m ρ c)); iexact H3
  iexists f4; iexact H4

/-- The pieces that the body leaves are what the launch takes back. -/
theorem post_staged (c : Dev nD) :
    iprop(Φ₁ c ∗ ow [] c ∗ bufPts c cc0_stg0_0 fullShare (xstg m ρ c) ∗ bufPts c cc0_stg1_0 fullShare (rtr m ρ c)
        ∗ bufPts c cc0_stg2_0 fullShare (rstg m ρ c) ∗ bufPts c cc0_stg3_0 fullShare (wstg m ρ c) ∗ bufPts c cc0_stg4_0 fullShare (outAt m ρ c))
      ⊢ post m ρ c := by
  unfold post Dat.owesAt Pipeline.owesWithin ow
  rw [show (dats m ρ 0 c).owed t0_0.succ = 0 from rfl]
  iintro ⟨HΦ, ⟨%W, HO⟩, H0, H1, H2, H3, H4⟩
  isplitl [HΦ]; · iexact HΦ
  isplitl [HO]
  · iexists W
    isplitr; · ipureintro; exact fun _ _ => Or.inl trivial
    iexact HO
  isplitl [H0]; · iapply (stg_intro c cc0_stg0_0 (xstg m ρ c)); iexact H0
  isplitl [H1]; · iapply (stg_intro c cc0_stg1_0 (rtr m ρ c)); iexact H1
  isplitl [H2]; · iapply (stg_intro c cc0_stg2_0 (rstg m ρ c)); iexact H2
  isplitl [H3]; · iapply (stg_intro c cc0_stg3_0 (wstg m ρ c)); iexact H3
  iapply (stg_intro c cc0_stg4_0 (outAt m ρ c)); iexact H4

/-- The body at the pipeline's one point. -/
theorem body_point (c : Dev nD) : pre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9) (fun _ => post m ρ c) := by
  iintro H
  ihave H' := (pre_staged m ρ c) $$ H
  unfold Φ₀ start dealt linear credits
  icases H' with ⟨⟨⟨⟨%K, HR, Hat, Htok⟩, Hcr, Hlev⟩, Hb⟩, HO, H0, H1, H2, H3, H4⟩
  iapply (sound_body m ρ K c fun _ => post m ρ c) $$ [HR Hat Htok Hcr Hlev Hb HO H0 H2 H3 H4]
  · isplitl [HR]; · iexact HR
    isplitl [Hlev]; · iexact Hlev
    isplitl [Hat Htok Hcr HO]
    · unfold bodyGhost
      isplitl [HO]; · iexact HO
      isplitl [Htok]; · iexact Htok
      isplitl [Hat]; · iexact Hat
      iexact Hcr
    isplitl [Hb]; · iexact Hb
    isplitl [H0]; · iexact H0
    isplitl [H2]; · iexact H2
    isplitl [H3]; · iexact H3
    iexact H4
  iintro ⟨HO, Hz, Hb, H0, H2, H3, H4⟩
  iapply (post_staged m ρ c)
  unfold Φ₁
  isplitl [Hb Hz]
  · isplitl [Hb]; · iexact Hb
    iexact Hz
  isplitl [HO]; · iexact HO
  isplitl [H0]; · iexact H0
  isplitl [H1]; · iexact H1
  isplitl [H2]; · iexact H2
  isplitl [H3]; · iexact H3
  iexact H4

set_option maxRecDepth 4000 in
/-- The pipeline's obligation for the body on device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  exact body_point m ρ c

/-! ## The launch -/

/-- The twelve transfer semaphores. -/
abbrev osem : Fin 12 → SemLoc sig := fun k => csem ⟨k.val + 1, by omega⟩

/-- The kernel's own semaphores are listed once each. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The thirteen semaphores are different. -/
theorem csem_injective : Function.Injective csem := fun k k' h => Option.some.inj ((semIx_csem k).symm.trans ((congrArg semIx h).trans (semIx_csem k')))

abbrev cellIx (ck : Dev nD × Fin 13) : GSem nD τ sig := kcell ck.1 ck.2
/-- The cells of all devices are different. -/
theorem cellIx_injective : Function.Injective cellIx := fun a b h =>
  Prod.ext (congrArg (fun g : GSem nD τ sig => g.1.1) h) (csem_injective (congrArg Prod.snd h))
def theCells : Finset (GSem nD τ sig) := Finset.univ.map ⟨cellIx, cellIx_injective⟩

/-- The eighteen tokens of a device's own cells: each names its payment. -/
abbrev tokIx (cj : Dev nD × Fin 18) : GSem nD τ sig × ℕ × Fin 6 := (kcell cj.1 (payK cj.2), 0, payD cj.2)
/-- No two payments fill the same duty. -/
theorem payIx_injective : ∀ j j' : Fin 18, payK j = payK j' → payD j = payD j' → j = j' := by decide
/-- The duties' tokens are different. -/
theorem tokIx_injective : Function.Injective tokIx := fun a b h =>
  Prod.ext (congrArg (fun x : GSem nD τ sig × ℕ × Fin 6 => x.1.1.1) h)
    (payIx_injective _ _ (csem_injective (congrArg (fun x : GSem nD τ sig × ℕ × Fin 6 => x.1.2) h)) (congrArg (fun x : GSem nD τ sig × ℕ × Fin 6 => x.2.2) h))
def theToks : Finset (GSem nD τ sig × ℕ × Fin 6) := Finset.univ.map ⟨tokIx, tokIx_injective⟩

def u₀ : UU := (initOf (Pipeline.cells cfgs cellOf_inj) (Pipeline.launchToks cfgs cellOf_inj), initOf theCells theToks)

/-- The tokens of device `c`'s own cells. -/
def toks (c : Dev nD) : sProp 𝕄 := bigSep Finset.univ fun j : Fin 18 => dutyTok ER (kcell c (payK j)) 0 (payD j)

/-- What the launch's ghost element holds for device `c`. -/
def G (c : Dev nD) : sProp 𝕄 :=
  iprop((bigSep Finset.univ fun k : Fin 13 => roundState ER (sched m ρ) (kcell c k) 0)
    ∗ (bigSep Finset.univ fun k : Fin 13 => iprop(atPos ER (kcell c k) 0 ∅ 0 ∗ reached ER (kcell c k) 0)) ∗ toks c)

/-- The starting state of the cells' records is dealt to the devices. -/
theorem fund : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : Fin 13 => Φ (kcell c k) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]; rfl
  iintro HX
  imod (Rounds.fund ER (sched m ρ) theCells theToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-- A separating product over 12 indices, written out. -/
theorem bigSep_fin12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- The barrier's is the one counter that outlives the kernel. -/
theorem unscoped_eq (c : Dev nD) : (unscopedSems0 c : sProp 𝕄) = semVal (kcell c 0) 0 := by
  unfold unscopedSems0; rw [bigSep_eq_bigSepL_of_eq [SemLoc.reg barS] (by decide) (by decide)]; rfl

/-- The twelve transfer semaphores' counters and the barrier's are the thirteen cells'. -/
theorem counters (c : Dev nD) :
    (iprop(Pipeline.ownSems0 (Ix := Unit) (Name := ℕ) (U := UU) (Lvl := ℕ) (Val := Elt F) (τ := τ) osem c ∗ unscopedSems0 c) : sProp 𝕄) ⊢ zeros c := by
  rw [unscoped_eq]
  unfold zeros Pipeline.ownSems0
  rw [bigSep_fin12, bigSep_fin13]
  iintro ⟨⟨H1, H2, H3, H4, H5, H6, H7, H8, H9, H10, H11, H12⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12
/-- Thirteen counters at zero are what the launch wants back. -/
theorem counters_back (c : Dev nD) :
    zeros c ⊢ (iprop(unscopedSems0 c ∗ Pipeline.ownSems0 (Ix := Unit) (Name := ℕ) (U := UU) (Lvl := ℕ) (Val := Elt F) (τ := τ) osem c) : sProp 𝕄) := by
  rw [unscoped_eq]
  unfold zeros Pipeline.ownSems0
  rw [bigSep_fin12, bigSep_fin13]
  iintro ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- A device's zero counters and its share of the records open its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell c k)))
          ∗ (bigSep Finset.univ fun k => iprop(atPos ER (kcell c k) 0 ∅ 0 ∗ reached ER (kcell c k) 0)) ∗ toks c) := by
  unfold G
  iintro ⟨Hos, Hus, Hst, Hat, Htok⟩
  ihave Hv := (counters (F := F) c) $$ [Hos Hus]
  · isplitl [Hos]; · iexact Hos
    iexact Hus
  imod (show iprop(zeros c ∗ bigSep Finset.univ fun k : Fin 13 => roundState ER (sched m ρ) (kcell c k) 0)
      ⊢ (|={Set.univ}=> bigSep Finset.univ fun k => iprop(∃ κ : ℕ, cellInv ER (sched m ρ) κ (kcell c k)) : sProp 𝕄) from by
        unfold zeros
        rw [← bigSep_sep']
        exact (bigSep_mono fun k _ => (Rounds.body_intro ER (sched m ρ) (kcell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- Moving `payS j` places round the ring, as a permutation of the devices. -/
def turnBy (j : Fin 18) : Dev nD ≃ Dev nD :=
  ⟨sh (payS j), sh (16 - payS j), fun c => sh_back _ (payS_le j) c, fun c => sh_forth _ (payS_le j) c⟩

/-- Two conjunctions over all of two types, taken in the other order. -/
theorem flip_univ {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod fun x : α × β => Φ x.1 x.2, ← bigSep_univ_prod fun x : β × α => Φ x.2 x.1]
  exact bigSep_univ_equiv (Equiv.prodComm β α) _

/-- Each token goes to the device that pays it. -/
theorem toks_around : (bigSep Finset.univ fun c : Dev nD => (toks c : sProp 𝕄))
    = bigSep Finset.univ fun c : Dev nD => bigSep Finset.univ fun j : Fin 18 => dutyTok ER (tgt j c) 0 (payD j) := by
  unfold toks
  rw [flip_univ, flip_univ (fun (c : Dev nD) (j : Fin 18) => (dutyTok ER (tgt j c) 0 (payD j) : sProp 𝕄))]
  exact bigSep_congr fun j _ => bigSep_univ_equiv (turnBy j) (fun c : Dev nD => (dutyTok ER (kcell c (payK j)) 0 (payD j) : sProp 𝕄))

/-- The shared records and a device's own part make what it is dealt. -/
theorem dealt_intro (K : Dev nD × Fin 13 → ℕ) (c : Dev nD) : iprop(records m ρ K ∗ linear c) ⊢ dealt m ρ c := by
  unfold dealt; iintro H; iexists K; iexact H

/-- The opened cells of all devices, regrouped: every device gets the records of all and its own part. -/
theorem regroup :
    (bigSep Finset.univ fun c : Dev nD => iprop((bigSep Finset.univ fun k => iprop(∃ κ : ℕ, cellInv ER (sched m ρ) κ (kcell c k)))
          ∗ (bigSep Finset.univ fun k => iprop(atPos ER (kcell c k) 0 ∅ 0 ∗ reached ER (kcell c k) 0)) ∗ toks c) : sProp 𝕄)
      ⊢ bigSep Finset.univ (dealt m ρ) := by
  rw [bigSep_sep', bigSep_sep', ← bigSep_univ_prod (fun ck : Dev nD × Fin 13 => iprop(∃ κ : ℕ, cellInv ER (sched m ρ) κ (kcell ck.1 ck.2))),
    bigSep_congr (s := Finset.univ) (fun (c : Dev nD) _ => bigSep_sep' Finset.univ (fun k : Fin 13 => (atPos ER (kcell c k) 0 ∅ 0 : sProp 𝕄)) (fun k => reached ER (kcell c k) 0)),
    bigSep_sep', ← bigSep_univ_prod (fun ck : Dev nD × Fin 13 => (reached ER (kcell ck.1 ck.2) 0 : sProp 𝕄)), toks_around]
  iintro ⟨HI, ⟨Hat, #HR⟩, Htok⟩
  ihave HK := (BI.bigSep_exists_pi Finset.univ (fun (ck : Dev nD × Fin 13) (κ : ℕ) => (cellInv ER (sched m ρ) κ (kcell ck.1 ck.2) : sProp 𝕄))) $$ HI
  icases HK with ⟨%K, #HI⟩
  iapply (bigSep_with_persistent (R := records m ρ K) fun c _ => dealt_intro m ρ K c)
  isplitr
  · unfold records; isplitl; · iexact HI
    iexact HR
  · unfold linear
    rw [bigSep_sep']
    isplitl [Hat]; · iexact Hat
    iexact Htok

/-- From every device's counters and ghost share to what each starts with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ### The credit the launch hands out -/

/-- One credit per payment still to come to device `c`. -/
def creditL : List (Fin 18) → Dev nD → sProp 𝕄
  | [], _ => iprop(emp)
  | j :: l, c => iprop(creditL l c ∗ cred (tallyAt (kcell c (payK j)) () (amt (payK j))))

/-- The launch's credit covers each payment of the list. -/
theorem creditL_intro (l : List (Fin 18)) (c : Dev nD) : (Pipeline.launchCred (owe l) c : sProp 𝕄) ⊢ creditL l c := by
  induction l with
  | nil => exact Entails.of_eq (Pipeline.launchCred_zero c)
  | cons j l ih =>
    show (Pipeline.launchCred (fun d => owe l d + tallyAt (tgt j d) () (amt (payK j))) c : sProp 𝕄) ⊢ _
    rw [Pipeline.launchCred_add]
    exact BIClass.sep_mono ih (Pipeline.launchCred_tallyAt (csem (payK j)) (sh (payS j)) (sh (16 - payS j)) (sh_forth _ (payS_le j)) (sh_back _ (payS_le j)) () (amt (payK j)) c)

/-- Two credits at one cell make one. -/
theorem cred_join (g : GSem nD τ sig) (a b : ℕ) :
    (iprop(cred (tallyAt g () a) ∗ cred (tallyAt g () b)) : sProp 𝕄) ⊢ cred (tallyAt g () (a + b)) := by
  rw [← tallyAt_add]; exact (cred_add _ _).2

/-- The launch's credit, gathered by cell. -/
theorem creds (c : Dev nD) : (Pipeline.launchCred O₀ c : sProp 𝕄) ⊢ credits c := by
  refine (creditL_intro [0, 1, 2, 3, 4, 5, 6, 7, 8, 9, 10, 11] c).trans ?_
  simp only [creditL]
  unfold credits
  iintro ⟨⟨⟨⟨⟨⟨⟨⟨⟨⟨⟨⟨-, H11⟩, H10⟩, H9⟩, H8⟩, H7⟩, H6⟩, H5⟩, H4⟩, H3⟩, H2⟩, H1⟩, H0⟩
  isplitl [H0 H1 H2 H3 H4 H5]
  · iapply (cred_join (kcell c 0) 5 1); isplitr [H0]
    · iapply (cred_join (kcell c 0) 4 1); isplitr [H1]
      · iapply (cred_join (kcell c 0) 3 1); isplitr [H2]
        · iapply (cred_join (kcell c 0) 2 1); isplitr [H3]
          · iapply (cred_join (kcell c 0) 1 1); isplitr [H4]
            · iexact H5
            iexact H4
          iexact H3
        iexact H2
      iexact H1
    iexact H0
  isplitl [H8]; · iexact H8
  isplitl [H7]; · iexact H7
  isplitl [H6]; · iexact H6
  isplitl [H9]; · iexact H9
  isplitl [H11]; · iexact H11
  iexact H10

/-! ### The launch theorem's side conditions -/

/-- What the launch leaves a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- The state before the one grid point. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

/-- The state after the one grid point gives back the counters and the buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  iintro ⟨Hr, Hz⟩
  ihave H := (counters_back (F := F) c) $$ Hz
  icases H with ⟨Hu, Ho⟩
  isplitl [Hu]; · iexact Hu
  isplitl [Ho]; · iexact Ho
  iexact Hr

/-- The windows' own semaphores are none of the thirteen. -/
theorem stage_sem : ∀ (w : Fin cfg0.W) (s : Fin (cfg0.win w).nbuf), semIx (.dma ((cfg0.win w).sem s)) = none := by decide

/-- A device may wait for its staging transfers before and after the body. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_sem c _ [0, 1, 2, 3, 4, 5, 6, 7, 8, 9, 10, 11] fun j hj => by
        rw [show lv ((c : Thread nD τ), .dma ((cfg0.win w).sem s)) () = 0 from by unfold lv; dsimp only; rw [stage_sem w s]]
        revert j; decide
    · exact mayWait_sem c _ [] (by simp)

/-! ### The run -/

/-- An array's contents after the run. -/
def finalA (c : Dev nD) (w : Fin cfg0.W) : Buf (Elt F) ((cfg0.win w).arr.view.loc (c : Thread nD τ)) := (dats m ρ 0 c).arrAt w cfg0.N

set_option maxRecDepth 8000 in
/-- On sixteen devices, for any float values and from any memory with zero counters: every weakly fair execution of @main
    ends, each device's arrays hold the computed contents, and every counter is zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays are as they were. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

end Cert.Moe

end
-- ==== Proof.Frames.lean ====
/-
# 01_k — `Frames`: the kernel leaves its arguments and every counter as they were
-/
module

public import proofs.«01_k».proof.Defs
public import proofs.«01_k».proof.Proof.Region
public import proofs.«01_k».proof.Proof.Gen.Kernel
public import proofs.«01_k».proof.Proof.Gen.ReferenceIdeal.Run

@[expose] public section

noncomputable section

namespace Cert.Moe

open Idealize.ShloMosaic Idealize.SL.Sem
open Idealize.ShloMosaic.TcCoe

variable {F : FTy → Type} [FloatOps F]

/-- On any float values the kernel ends, its arguments unchanged, its counters at zero. -/
theorem run_args (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ (fun r => (∀ c : Dev Cert.KernelIdeal.nD,
      r.2.mem ((c : Thread Cert.KernelIdeal.nD Cert.KernelIdeal.τ).loc Cert.KernelIdeal.main_arg0) = m ((c : Thread Cert.KernelIdeal.nD Cert.KernelIdeal.τ).loc Cert.KernelIdeal.main_arg0)
      ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
      ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
      ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
      ∧ r.2.sem = fun _ => 0) :=
  (θ_run Cert.KernelIdeal.defs _ _).mono
    (fun r (h : (∀ (c : Dev Cert.KernelIdeal.nD) (w : Fin Cert.KernelIdeal.cfg0.W), _) ∧ _) =>
      ⟨fun c => ⟨(h.1 c 0).trans (finalA_in m ρ c 0 rfl), (h.1 c 1).trans (finalA_in m ρ c 1 rfl), (h.1 c 2).trans (finalA_in m ρ c 2 rfl), (h.1 c 3).trans (finalA_in m ρ c 3 rfl)⟩, h.2⟩)
    (run_main m ρ)

/-- The kernel over the extended reals. -/
theorem frame_ideal : Cert.quiescent_KernelIdeal := fun m ρ _ => run_args (F := Ideal) m ρ

/-- The two printed body tables are one. -/
theorem table_eq : Cert.Kernel.defs₀ (F := F) = Cert.KernelIdeal.defs₀ (F := F) := by
  unfold Cert.Kernel.defs₀ Cert.KernelIdeal.defs₀
  refine congrArg Defs.onTc ?_
  funext ℓ a
  match ℓ, a with
  | 0, (t, s) => rfl

/-- The kernel and its idealization have the same functions. -/
theorem defs_eq : Cert.Kernel.defs (F := F) = Cert.KernelIdeal.defs (F := F) := by
  unfold Cert.Kernel.defs Cert.KernelIdeal.defs
  rw [table_eq]
  exact rfl

/-- The kernel over the machine's floats: the same text. -/
theorem frame_kernel : Cert.quiescent_Kernel := fun m ρ _ => by
  rw [defs_eq]
  exact run_args (F := Bits) m ρ

/-- The reference is a host program without a semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Terms.lean ====
/-
# 01_k — `Terms`: the shapes of the kernel's two sums

One device's token contributions and one device's histogram are each one expression, printed once for every message. Here
they are named, read at an index over the extended reals, and the kernel's result is written as sums of them.
-/
module

public import proofs.«01_k».proof.Proof.Vals
public import Idealize.ShloMosaic.Lib.Pointwise
public import Idealize.ShloMosaic.Lib.IdealHost

@[expose] public section

set_option maxRecDepth 16384

noncomputable section

namespace Cert.Moe

open Cert.KernelIdeal Cert.KernelIdeal.Gen
open Idealize.ShloMosaic

section Names

variable {F : FTy → Type} [FloatOps F]

/-- The mask of the tokens routed to expert `e`, as a column. -/
def maskV (e : BitVec 32) (r : IVec S256x1 32) : FVec F S256x1 .bf16 :=
  truncf .bf16 (sitofp .f32 (extui 32 (cmpi .eq r (broadcast S256x1 e)) natLt_1_32)) bitsLt_bf16_f32

/-- What a device with origin word `o` and stacked weights `w` adds to the tokens `x` routed by `r`. -/
def contribV (o : BitVec 32) (x : FVec F S256x128 .bf16) (r : IVec S256x1 32) (w : FVec F S256x256 .bf16) : FVec F S256x256 .f32 :=
  matmul dot_S256x256_S256x256_S256x256_1_0_0_1_n_n none
    (concatenate S256x256 1 [⟨S256x128, mulf x (broadcastTo S256x128 (maskV (Scalar.muli 2#32 o) r) broadcasts_S256x1_S256x128)⟩,
        ⟨S256x128, mulf x (broadcastTo S256x128 (maskV (Scalar.addi (Scalar.muli 2#32 o) 1#32) r) broadcasts_S256x1_S256x128)⟩]
      concatenates_S256x128_S256x128_S256x256_d1)
    w (constant S256x256 .f32 0x00000000#32)

/-- The indicator, token by expert, of a message's routes. -/
def rowHotV (row : Vec F S1x1x256 .bf16) : FVec F S256x32 .f32 :=
  sitofp .f32 (extui 32 (cmpf .oeq
    (broadcastTo S256x32 (shapeCast S256x1 (shapeCast S1x256 row shapeCasts_S1x1x256_S1x256) shapeCasts_S1x256_S256x1) broadcasts_S256x1_S256x32)
    (broadcastTo S256x32 (k0_pay6 (F := F)) broadcasts_S1x32_S256x32)) natLt_1_32)

/-- A message's histogram, where the bit `b` is set. -/
def histV (b : BitVec 1) (row : Vec F S1x1x256 .bf16) : FVec F S1x32 .f32 :=
  Scalar.select b
    (shapeCast S1x32 (multiReduction .add [0] S32 (rowHotV row) 0x00000000#32 reduces_S256x32_S32 (.inl rfl) rfl) shapeCasts_S32_S1x32)
    (broadcast S1x32 (Scalar.ofBits .f32 0x00000000#32))

/-- A weights message as the square matrix of the two experts stacked. -/
def wmatV (w : Vec F S1x256x256 .bf16) : FVec F S256x256 .bf16 := shapeCast S256x256 w shapeCasts_S1x256x256_S256x256

end Names

section Steps

variable {F : FTy → Type} [FloatOps F]
variable (m : (ℓ : Loc nD τ sig) → Buf (Elt F) ℓ) (ρ : Dev nD → PrngReg) (c : Dev nD)

/-- Device `c`'s number as a word. -/
def dw (c : Dev nD) : BitVec 32 := BitVec.ofNat 32 c.val

/-- What device `o`'s message adds to device `c`'s tokens. -/
def addend (o : Dev nD) : FVec F S256x256 .f32 := contribV (dw o) (a34 m ρ c) (a36 m ρ c) (wmatV (wrow m ρ o))

/-- What device `o`'s message adds to device `c`'s prefix. -/
def tally (o : Dev nD) : FVec F S1x32 .f32 := histV (F := F) (Scalar.cmpi .slt (dw o) (dw c)) (rrow m ρ o)

/-- The device's number as the kernel reads it. -/
theorem word_own : a2 c = dw c := (by decide : ∀ c : Dev nD, a2 c = dw c) c
/-- A device number that the kernel computes, by its distance around the sixteen devices. -/
theorem word_p4 : Scalar.remsi (Scalar.addi (a2 c) 4#32) 16#32 = dw (sh 4 c) := (by decide : ∀ c : Dev nD, Scalar.remsi (Scalar.addi (a2 c) 4#32) 16#32 = dw (sh 4 c)) c
/-- A device number that the kernel computes, by its distance around the sixteen devices. -/
theorem word_p8 : Scalar.remsi (Scalar.addi (a2 c) 8#32) 16#32 = dw (sh 8 c) := (by decide : ∀ c : Dev nD, Scalar.remsi (Scalar.addi (a2 c) 8#32) 16#32 = dw (sh 8 c)) c
/-- A device number that the kernel computes, by its distance around the sixteen devices. -/
theorem word_p12 : Scalar.remsi (Scalar.addi (a2 c) 12#32) 16#32 = dw (sh 12 c) := (by decide : ∀ c : Dev nD, Scalar.remsi (Scalar.addi (a2 c) 12#32) 16#32 = dw (sh 12 c)) c
/-- A device number that the kernel computes, by its distance around the sixteen devices. -/
theorem word_m1_0 : Scalar.remsi (Scalar.addi (Scalar.addi (Scalar.subi (a2 c) 1#32) 0#32) 16#32) 16#32 = dw (sh 0 (sh 15 c)) := (by decide : ∀ c : Dev nD, Scalar.remsi (Scalar.addi (Scalar.addi (Scalar.subi (a2 c) 1#32) 0#32) 16#32) 16#32 = dw (sh 0 (sh 15 c))) c
/-- A device number that the kernel computes, by its distance around the sixteen devices. -/
theorem word_m1_4 : Scalar.remsi (Scalar.addi (Scalar.addi (Scalar.subi (a2 c) 1#32) 4#32) 16#32) 16#32 = dw (sh 4 (sh 15 c)) := (by decide : ∀ c : Dev nD, Scalar.remsi (Scalar.addi (Scalar.addi (Scalar.subi (a2 c) 1#32) 4#32) 16#32) 16#32 = dw (sh 4 (sh 15 c))) c
/-- A device number that the kernel computes, by its distance around the sixteen devices. -/
theorem word_m1_8 : Scalar.remsi (Scalar.addi (Scalar.addi (Scalar.subi (a2 c) 1#32) 8#32) 16#32) 16#32 = dw (sh 8 (sh 15 c)) := (by decide : ∀ c : Dev nD, Scalar.remsi (Scalar.addi (Scalar.addi (Scalar.subi (a2 c) 1#32) 8#32) 16#32) 16#32 = dw (sh 8 (sh 15 c))) c
/-- A device number that the kernel computes, by its distance around the sixteen devices. -/
theorem word_m1_12 : Scalar.remsi (Scalar.addi (Scalar.addi (Scalar.subi (a2 c) 1#32) 12#32) 16#32) 16#32 = dw (sh 12 (sh 15 c)) := (by decide : ∀ c : Dev nD, Scalar.remsi (Scalar.addi (Scalar.addi (Scalar.subi (a2 c) 1#32) 12#32) 16#32) 16#32 = dw (sh 12 (sh 15 c))) c
/-- A device number that the kernel computes, by its distance around the sixteen devices. -/
theorem word_s1_0 : Scalar.remsi (Scalar.addi (Scalar.addi (a2 c) 1#32) 0#32) 16#32 = dw (sh 0 (sh 1 c)) := (by decide : ∀ c : Dev nD, Scalar.remsi (Scalar.addi (Scalar.addi (a2 c) 1#32) 0#32) 16#32 = dw (sh 0 (sh 1 c))) c
/-- A device number that the kernel computes, by its distance around the sixteen devices. -/
theorem word_s1_4 : Scalar.remsi (Scalar.addi (Scalar.addi (a2 c) 1#32) 4#32) 16#32 = dw (sh 4 (sh 1 c)) := (by decide : ∀ c : Dev nD, Scalar.remsi (Scalar.addi (Scalar.addi (a2 c) 1#32) 4#32) 16#32 = dw (sh 4 (sh 1 c))) c
/-- A device number that the kernel computes, by its distance around the sixteen devices. -/
theorem word_s1_8 : Scalar.remsi (Scalar.addi (Scalar.addi (a2 c) 1#32) 8#32) 16#32 = dw (sh 8 (sh 1 c)) := (by decide : ∀ c : Dev nD, Scalar.remsi (Scalar.addi (Scalar.addi (a2 c) 1#32) 8#32) 16#32 = dw (sh 8 (sh 1 c))) c
/-- A device number that the kernel computes, by its distance around the sixteen devices. -/
theorem word_s1_12 : Scalar.remsi (Scalar.addi (Scalar.addi (a2 c) 1#32) 12#32) 16#32 = dw (sh 12 (sh 1 c)) := (by decide : ∀ c : Dev nD, Scalar.remsi (Scalar.addi (Scalar.addi (a2 c) 1#32) 12#32) 16#32 = dw (sh 12 (sh 1 c))) c
/-- A device number that the kernel computes, by its distance around the sixteen devices. -/
theorem word_m2_0 : Scalar.remsi (Scalar.addi (Scalar.addi (Scalar.subi (a2 c) 2#32) 0#32) 16#32) 16#32 = dw (sh 0 (sh 14 c)) := (by decide : ∀ c : Dev nD, Scalar.remsi (Scalar.addi (Scalar.addi (Scalar.subi (a2 c) 2#32) 0#32) 16#32) 16#32 = dw (sh 0 (sh 14 c))) c
/-- A device number that the kernel computes, by its distance around the sixteen devices. -/
theorem word_m2_4 : Scalar.remsi (Scalar.addi (Scalar.addi (Scalar.subi (a2 c) 2#32) 4#32) 16#32) 16#32 = dw (sh 4 (sh 14 c)) := (by decide : ∀ c : Dev nD, Scalar.remsi (Scalar.addi (Scalar.addi (Scalar.subi (a2 c) 2#32) 4#32) 16#32) 16#32 = dw (sh 4 (sh 14 c))) c
/-- A device number that the kernel computes, by its distance around the sixteen devices. -/
theorem word_m2_8 : Scalar.remsi (Scalar.addi (Scalar.addi (Scalar.subi (a2 c) 2#32) 8#32) 16#32) 16#32 = dw (sh 8 (sh 14 c)) := (by decide : ∀ c : Dev nD, Scalar.remsi (Scalar.addi (Scalar.addi (Scalar.subi (a2 c) 2#32) 8#32) 16#32) 16#32 = dw (sh 8 (sh 14 c))) c
/-- A device number that the kernel computes, by its distance around the sixteen devices. -/
theorem word_m2_12 : Scalar.remsi (Scalar.addi (Scalar.addi (Scalar.subi (a2 c) 2#32) 12#32) 16#32) 16#32 = dw (sh 12 (sh 14 c)) := (by decide : ∀ c : Dev nD, Scalar.remsi (Scalar.addi (Scalar.addi (Scalar.subi (a2 c) 2#32) 12#32) 16#32) 16#32 = dw (sh 12 (sh 14 c))) c

/-! ### The running sum of contributions -/

/-- The next step of the running sum adds one message's contribution. -/
theorem a201_eq : a201 m ρ c = addf (a103 m ρ c) (addend m ρ c (sh 4 c)) := by
  unfold addend
  rw [← word_p4 c]
  rfl
/-- The next step of the running sum adds two messages' contributions. -/
theorem a275_eq : a275 m ρ c = addf (addf (a201 m ρ c) (addend m ρ c (sh 8 c))) (addend m ρ c (sh 12 c)) := by
  unfold addend
  rw [← word_p8 c, ← word_p12 c]
  rfl
/-- The next step of the running sum adds one message's contribution. -/
theorem a318_eq : a318 m ρ c = addf (a275 m ρ c) (addend m ρ c (sh 0 (sh 15 c))) := by
  unfold addend
  rw [← word_m1_0 c]
  rfl
/-- The next step of the running sum adds one message's contribution. -/
theorem a357_eq : a357 m ρ c = addf (a318 m ρ c) (addend m ρ c (sh 4 (sh 15 c))) := by
  unfold addend
  rw [← word_m1_4 c]
  rfl
/-- The next step of the running sum adds one message's contribution. -/
theorem a396_eq : a396 m ρ c = addf (a357 m ρ c) (addend m ρ c (sh 8 (sh 15 c))) := by
  unfold addend
  rw [← word_m1_8 c]
  rfl
/-- The next step of the running sum adds one message's contribution. -/
theorem a435_eq : a435 m ρ c = addf (a396 m ρ c) (addend m ρ c (sh 12 (sh 15 c))) := by
  unfold addend
  rw [← word_m1_12 c]
  rfl
/-- The next step of the running sum adds one message's contribution. -/
theorem a477_eq : a477 m ρ c = addf (a435 m ρ c) (addend m ρ c (sh 0 (sh 1 c))) := by
  unfold addend
  rw [← word_s1_0 c]
  rfl
/-- The next step of the running sum adds one message's contribution. -/
theorem a515_eq : a515 m ρ c = addf (a477 m ρ c) (addend m ρ c (sh 4 (sh 1 c))) := by
  unfold addend
  rw [← word_s1_4 c]
  rfl
/-- The next step of the running sum adds one message's contribution. -/
theorem a553_eq : a553 m ρ c = addf (a515 m ρ c) (addend m ρ c (sh 8 (sh 1 c))) := by
  unfold addend
  rw [← word_s1_8 c]
  rfl
/-- The next step of the running sum adds one message's contribution. -/
theorem a591_eq : a591 m ρ c = addf (a553 m ρ c) (addend m ρ c (sh 12 (sh 1 c))) := by
  unfold addend
  rw [← word_s1_12 c]
  rfl
/-- The next step of the running sum adds one message's contribution. -/
theorem a634_eq : a634 m ρ c = addf (a591 m ρ c) (addend m ρ c (sh 0 (sh 14 c))) := by
  unfold addend
  rw [← word_m2_0 c]
  rfl
/-- The next step of the running sum adds one message's contribution. -/
theorem a673_eq : a673 m ρ c = addf (a634 m ρ c) (addend m ρ c (sh 4 (sh 14 c))) := by
  unfold addend
  rw [← word_m2_4 c]
  rfl
/-- The next step of the running sum adds one message's contribution. -/
theorem a712_eq : a712 m ρ c = addf (a673 m ρ c) (addend m ρ c (sh 8 (sh 14 c))) := by
  unfold addend
  rw [← word_m2_8 c]
  rfl
/-- The next step of the running sum adds one message's contribution. -/
theorem a751_eq : a751 m ρ c = addf (a712 m ρ c) (addend m ρ c (sh 12 (sh 14 c))) := by
  unfold addend
  rw [← word_m2_12 c]
  rfl

/-! ### The running sum of histograms -/

/-- The next step of the running prefix adds one message's counts. -/
theorem a202_eq : a202 m ρ c = addf (a115 m ρ c) (tally m ρ c (sh 4 c)) := by
  unfold tally
  rw [← word_p4 c, ← word_own c]
  rfl
/-- The next step of the running prefix adds two messages' counts. -/
theorem a276_eq : a276 m ρ c = addf (addf (a202 m ρ c) (tally m ρ c (sh 8 c))) (tally m ρ c (sh 12 c)) := by
  unfold tally
  rw [← word_p8 c, ← word_p12 c, ← word_own c]
  rfl
/-- The next step of the running prefix adds two messages' counts. -/
theorem a358_eq : a358 m ρ c = addf (addf (a276 m ρ c) (tally m ρ c (sh 0 (sh 15 c)))) (tally m ρ c (sh 4 (sh 15 c))) := by
  unfold tally
  rw [← word_m1_0 c, ← word_m1_4 c, ← word_own c]
  rfl
/-- The next step of the running prefix adds one message's counts. -/
theorem a397_eq : a397 m ρ c = addf (a358 m ρ c) (tally m ρ c (sh 8 (sh 15 c))) := by
  unfold tally
  rw [← word_m1_8 c, ← word_own c]
  rfl
/-- The next step of the running prefix adds one message's counts. -/
theorem a436_eq : a436 m ρ c = addf (a397 m ρ c) (tally m ρ c (sh 12 (sh 15 c))) := by
  unfold tally
  rw [← word_m1_12 c, ← word_own c]
  rfl
/-- The next step of the running prefix adds one message's counts. -/
theorem a478_eq : a478 m ρ c = addf (a436 m ρ c) (tally m ρ c (sh 0 (sh 1 c))) := by
  unfold tally
  rw [← word_s1_0 c, ← word_own c]
  rfl
/-- The next step of the running prefix adds one message's counts. -/
theorem a516_eq : a516 m ρ c = addf (a478 m ρ c) (tally m ρ c (sh 4 (sh 1 c))) := by
  unfold tally
  rw [← word_s1_4 c, ← word_own c]
  rfl
/-- The next step of the running prefix adds one message's counts. -/
theorem a554_eq : a554 m ρ c = addf (a516 m ρ c) (tally m ρ c (sh 8 (sh 1 c))) := by
  unfold tally
  rw [← word_s1_8 c, ← word_own c]
  rfl
/-- The next step of the running prefix adds one message's counts. -/
theorem a592_eq : a592 m ρ c = addf (a554 m ρ c) (tally m ρ c (sh 12 (sh 1 c))) := by
  unfold tally
  rw [← word_s1_12 c, ← word_own c]
  rfl
/-- The next step of the running prefix adds one message's counts. -/
theorem a635_eq : a635 m ρ c = addf (a592 m ρ c) (tally m ρ c (sh 0 (sh 14 c))) := by
  unfold tally
  rw [← word_m2_0 c, ← word_own c]
  rfl
/-- The next step of the running prefix adds one message's counts. -/
theorem a674_eq : a674 m ρ c = addf (a635 m ρ c) (tally m ρ c (sh 4 (sh 14 c))) := by
  unfold tally
  rw [← word_m2_4 c, ← word_own c]
  rfl
/-- The next step of the running prefix adds one message's counts. -/
theorem a713_eq : a713 m ρ c = addf (a674 m ρ c) (tally m ρ c (sh 8 (sh 14 c))) := by
  unfold tally
  rw [← word_m2_8 c, ← word_own c]
  rfl
/-- The next step of the running prefix adds one message's counts. -/
theorem a752_eq : a752 m ρ c = addf (a713 m ρ c) (tally m ρ c (sh 12 (sh 14 c))) := by
  unfold tally
  rw [← word_m2_12 c, ← word_own c]
  rfl

/-- The running sum starts with the device's own contribution. -/
theorem a103_eq : a103 m ρ c = addend m ρ c c := by
  unfold addend
  rw [← word_own c, show wmatV (wrow m ρ c) = a39 m ρ c from funext fun i => by
    idx_vars i
    pointwise [wmatV, k0_pay4, a39]]
  rfl

end Steps

end Cert.Moe

end
-- ==== Proof.TermsAt.lean ====
/-
# 01_k — `TermsAt`: the kernel's result at a token and a column

Over the extended reals each device's contribution at a token is the product with the expert the token chose, if that
device holds it, and each histogram entry is a count.
-/
module

public import proofs.«01_k».proof.Proof.Terms

@[expose] public section

set_option maxRecDepth 16384

noncomputable section

namespace Cert.Moe

open Cert.KernelIdeal Cert.KernelIdeal.Gen
open Idealize.ShloMosaic

/-! ### Indicators and counts -/

/-- A comparison's bit, widened and read as a float, is one or zero. -/
theorem sitofp_bit (φ : FTy) (p : Prop) [Decidable p] :
    FloatOps.sitofp (F := Ideal) φ (BitVec.setWidth 32 (BitVec.ofBool (decide p))) = ((if p then 1 else 0 : ℕ) : EReal) := by
  show ((((BitVec.setWidth 32 (BitVec.ofBool (decide p))).toInt : ℤ) : ℝ) : EReal) = _
  by_cases h : p
  · simp [h]
  · simp [h]

/-- A sum of indicators is a count. -/
theorem sum_indicator {ι : Type} [Fintype ι] (p : ι → Prop) [DecidablePred p] :
    (∑ i, ((if p i then 1 else 0 : ℕ) : EReal)) = ((Finset.univ.filter p).card : ℕ) := by
  rw [Finset.card_filter]
  exact (map_sum (Nat.castAddMonoidHom EReal) (fun i => if p i then 1 else 0) Finset.univ).symm

/-- The floats of two small words are equal exactly when the words are. -/
theorem sitofp_inj (a b : BitVec 32) : FloatOps.sitofp (F := Ideal) .bf16 a = FloatOps.sitofp (F := Ideal) .bf16 b ↔ a = b := by
  show ((((a.toInt : ℤ) : ℝ) : EReal) = (((b.toInt : ℤ) : ℝ) : EReal)) ↔ a = b
  rw [EReal.coe_eq_coe_iff, Int.cast_inj]
  exact BitVec.toInt_inj

/-! ### The terms at an index -/

/-- The mask of an expert, at a token. -/
theorem maskV_at (e : BitVec 32) (r : IVec S256x1 32) (t : Fin 256) :
    maskV (F := Ideal) e r (ix2 t 0) = ((if r (ix2 t 0) = e then 1 else 0 : ℕ) : EReal) := by
  pointwise [maskV]
  rw [← sitofp_bit .f32]
  congr 3

/-- A masked product sum keeps its terms or vanishes. -/
theorem masked_sum (p : Prop) [Decidable p] (x w : Fin 128 → EReal) :
    (∑ d, x d * ((if p then 1 else 0 : ℕ) : EReal) * w d) = if p then ∑ d, x d * w d else 0 := by
  by_cases h : p
  · simp [h]
  · simp [h]

/-- A message's contribution, at a token and a column: the products with its two experts, each where chosen. -/
theorem contribV_at (o : BitVec 32) (x : FVec Ideal S256x128 .bf16) (r : IVec S256x1 32) (w : FVec Ideal S256x256 .bf16) (t h : Fin 256) :
    contribV (F := Ideal) o x r w (ix2 t h)
      = (if r (ix2 t 0) = Scalar.muli 2#32 o then ∑ d : Fin 128, x (ix2 t d) * w (ix2 ⟨d.val, by omega⟩ h) else 0)
        + (if r (ix2 t 0) = Scalar.addi (Scalar.muli 2#32 o) 1#32 then ∑ d : Fin 128, x (ix2 t d) * w (ix2 ⟨128 + d.val, by omega⟩ h) else 0) := by
  pointwise [contribV]
  simp only [maskV_at]
  rw [masked_sum, masked_sum]

/-- The indicator that a route read from a message is an expert, as a number. -/
theorem rowHotV_at (r : Vec Ideal S256x1 .i32) (s : Fin 256) (e : Fin 32) :
    rowHotV (F := Ideal) (k0_pay5 (F := Ideal) r) (ix2 s e) = ((if r (ix2 s 0) = BitVec.ofNat 32 e.val then 1 else 0 : ℕ) : EReal) := by
  pointwise [rowHotV, k0_pay6, k0_pay5, k0_pay2]
  simp only [sitofp_inj, sitofp_bit]

/-- A message's counts, at an expert. -/
theorem histV_at (b : BitVec 1) (r : Vec Ideal S256x1 .i32) (e : Fin 32) :
    histV (F := Ideal) b (k0_pay5 (F := Ideal) r) (ix2 0 e)
      = Scalar.select b ((Finset.univ.filter fun s : Fin 256 => r (ix2 s 0) = BitVec.ofNat 32 e.val).card : EReal) 0 := by
  pointwise [histV]
  simp only [rowHotV_at]
  rw [sum_indicator]

/-- The indicator that a token of the device chose an expert, as a number. -/
theorem hot_at (r : Vec Ideal S256x1 .i32) (t : Fin 256) (e : Fin 32) :
    k0_pay8 (F := Ideal) r (ix2 t e) = ((if r (ix2 t 0) = BitVec.ofNat 32 e.val then 1 else 0 : ℕ) : EReal) := by
  pointwise [k0_pay8]
  rw [← sitofp_bit .f32]
  congr 3

/-- Small words compare as their naturals. -/
theorem toInt_small (a : ℕ) (ha : a < 2 ^ 31) : (BitVec.ofNat 32 a).toInt = a := by
  rw [BitVec.toInt_eq_toNat_of_lt (by rw [BitVec.toNat_ofNat]; omega), BitVec.toNat_ofNat, Nat.mod_eq_of_lt (by omega)]

/-- Signed comparison of small words is the comparison of the naturals. -/
theorem sgt_small (a b : ℕ) (ha : a < 2 ^ 31) (hb : b < 2 ^ 31) :
    IntOp.cmpi .sgt (BitVec.ofNat 32 a) (BitVec.ofNat 32 b) = BitVec.ofBool (decide (b < a)) := by
  show BitVec.ofBool (BitVec.slt (BitVec.ofNat 32 b) (BitVec.ofNat 32 a)) = _
  unfold BitVec.slt
  rw [toInt_small a ha, toInt_small b hb]
  congr 1
  simp

/-- Signed comparison of small words is the comparison of the naturals. -/
theorem slt_small (a b : ℕ) (ha : a < 2 ^ 31) (hb : b < 2 ^ 31) :
    IntOp.cmpi .slt (BitVec.ofNat 32 a) (BitVec.ofNat 32 b) = BitVec.ofBool (decide (a < b)) := sgt_small b a hb ha

/-- The product with the triangle of ones counts the earlier tokens of the device. -/
theorem excl_at (r : Vec Ideal S256x1 .i32) (t : Fin 256) (e : Fin 32) :
    k0_pay9 (F := Ideal) r (ix2 t e) = ((Finset.univ.filter fun s : Fin 256 => s.val < t.val ∧ r (ix2 s 0) = BitVec.ofNat 32 e.val).card : EReal) := by
  pointwise [k0_pay9]
  rw [← sum_indicator]
  refine Finset.sum_congr rfl fun s _ => ?_
  rw [sgt_small _ _ (by omega) (by omega), sitofp_bit, hot_at]
  by_cases h1 : s.val < t.val <;> by_cases h2 : r (ix2 s 0) = BitVec.ofNat 32 e.val <;> simp [h1, h2]

/-- The capacity's word is the number 102. -/
theorem cap : Ideal.ofBits .f32 1120665600#32 = ((102 : ℕ) : EReal) := by
  have : Ideal.ofBits .f32 1120665600#32 = ((102 : ℝ) : EReal) := by
    simp [Ideal.ofBits, Ideal.ieee]
    rw [← EReal.coe_mul]
    norm_num
  rw [this]; norm_cast

/-- A one-hot row selects one entry, if its index is in range. -/
theorem hot_sum (w : BitVec 32) (f : Fin 32 → ℕ) :
    (∑ e : Fin 32, ((if w = BitVec.ofNat 32 e.val then 1 else 0 : ℕ) : EReal) * (f e : EReal))
      = ((∑ e : Fin 32, if w = BitVec.ofNat 32 e.val then f e else 0 : ℕ) : EReal) := by
  rw [show ((∑ e : Fin 32, if w = BitVec.ofNat 32 e.val then f e else 0 : ℕ) : EReal)
    = ∑ e : Fin 32, ((if w = BitVec.ofNat 32 e.val then f e else 0 : ℕ) : EReal) from map_sum (Nat.castAddMonoidHom EReal) _ Finset.univ]
  refine Finset.sum_congr rfl fun e _ => ?_
  by_cases h : w = BitVec.ofNat 32 e.val <;> simp [h]

/-- The result at a token and a column, when the indicators, the earlier counts and the prefix are naturals. -/
theorem out_at (h8 ex : FVec Ideal S256x32 .f32) (acc : FVec Ideal S256x256 .f32) (pre : FVec Ideal S1x32 .f32) (t h : Fin 256)
    (w : BitVec 32) (f g : Fin 32 → ℕ) (h1 : ∀ e, h8 (ix2 t e) = ((if w = BitVec.ofNat 32 e.val then 1 else 0 : ℕ) : EReal))
    (h2 : ∀ e, ex (ix2 t e) = (f e : EReal)) (h3 : ∀ e, pre (ix2 0 e) = (g e : EReal)) :
    k0_pay57 (F := Ideal) h8 ex acc pre (ix2 t h)
      = if (∑ e : Fin 32, if w = BitVec.ofNat 32 e.val then f e + g e else 0) < 102 then acc (ix2 t h) else 0 := by
  pointwise [k0_pay57]
  simp only [h1, h2, h3, cap]
  rw [show (∑ e : Fin 32, ((if w = BitVec.ofNat 32 e.val then 1 else 0 : ℕ) : EReal) * ((f e : EReal) + (g e : EReal)))
    = ((∑ e : Fin 32, if w = BitVec.ofNat 32 e.val then f e + g e else 0 : ℕ) : EReal) from by
      rw [← hot_sum]
      exact Finset.sum_congr rfl fun e _ => by rw [Nat.cast_add]]
  rw [sitofp_bit]
  simp only [EReal.natCast_lt_iff]
  by_cases h : (∑ e : Fin 32, if w = BitVec.ofNat 32 e.val then f e + g e else 0) < 102 <;> simp [h]

end Cert.Moe

end
-- ==== Proof.Result.lean ====
/-
# 01_k — `Result`: the kernel's result as sums over the devices

Every device's message arrives once, so the running sums are sums over all sixteen devices, in whatever order they came.
-/
module

public import proofs.«01_k».proof.Proof.TermsAt

@[expose] public section

set_option maxRecDepth 16384

noncomputable section

namespace Cert.Moe

open Cert.KernelIdeal Cert.KernelIdeal.Gen
open Idealize.ShloMosaic

/-! ### Round the ring -/

/-- The devices in the order in which device `c` takes them, as sums. -/
theorem sum_around {M : Type} [AddCommMonoid M] (T : Dev nD → M) (c : Dev nD) :
    T c + T (sh 4 c) + T (sh 8 c) + T (sh 12 c)
      + T (sh 0 (sh 15 c)) + T (sh 4 (sh 15 c)) + T (sh 8 (sh 15 c)) + T (sh 12 (sh 15 c))
      + T (sh 0 (sh 1 c)) + T (sh 4 (sh 1 c)) + T (sh 8 (sh 1 c)) + T (sh 12 (sh 1 c))
      + T (sh 0 (sh 14 c)) + T (sh 4 (sh 14 c)) + T (sh 8 (sh 14 c)) + T (sh 12 (sh 14 c)) = ∑ o, T o := by
  have h : ∑ o, T o = ∑ k : Fin 16, T (sh k.val c) :=
    (Function.Bijective.sum_comp (e := fun k : Fin 16 => sh k.val c)
      ((Fintype.bijective_iff_injective_and_card _).2 ⟨fun a b hab => Fin.ext (by
        have := congrArg Fin.val hab
        simp only [sh] at this
        have := a.isLt; have := b.isLt; have : c.val < 16 := c.isLt
        omega), rfl⟩) T).symm
  rw [h]
  simp only [sh_sh, sh_turn (15 + 4) 3 rfl, sh_turn (15 + 8) 7 rfl, sh_turn (15 + 12) 11 rfl, sh_turn (14 + 4) 2 rfl, sh_turn (14 + 8) 6 rfl,
    sh_turn (14 + 12) 10 rfl, Nat.reduceAdd, Nat.add_zero]
  conv_lhs => rw [← sh_zero c]
  simp only [sh_sh, Nat.zero_add]
  simp only [Fin.sum_univ_succ, Fin.sum_univ_zero, Fin.val_zero, Fin.val_succ, Nat.reduceAdd, add_zero]
  ac_rfl

/-! ### The two sums over the extended reals -/

section Read

variable (m : (ℓ : Loc nD τ sig) → Buf (Elt Ideal) ℓ) (ρ : Dev nD → PrngReg) (c : Dev nD)

/-- The route of device `c`'s token `s`. -/
def route (s : Fin 256) : BitVec 32 := rstg m ρ c (ix2 s (0 : Fin 1))

/-- Element `d` of device `c`'s token `t`. -/
def feat (t : Fin 256) (d : Fin 128) : EReal := xstg m ρ c (ix2 t d)

/-- The weight of device `c`'s expert `i` from element `d` to column `h`. -/
def weight (i : Fin 2) (d : Fin 128) (h : Fin 256) : EReal := wstg m ρ c (ix3 i d h)

/-- The product of device `c`'s token `t` with device `o`'s expert `i`, at column `h`. -/
def prod (o : Dev nD) (t h : Fin 256) (i : Fin 2) : EReal := ∑ d : Fin 128, feat m ρ c t d * weight m ρ o i d h

/-- How many of device `c`'s tokens chose expert `e`. -/
def chosen (e : Fin 32) : ℕ := (Finset.univ.filter fun s : Fin 256 => route m ρ c s = BitVec.ofNat 32 e.val).card

/-- How many of device `c`'s tokens before `t` chose expert `e`. -/
def earlier (t : Fin 256) (e : Fin 32) : ℕ :=
  (Finset.univ.filter fun s : Fin 256 => s.val < t.val ∧ route m ρ c s = BitVec.ofNat 32 e.val).card

/-- The routes that the body reads are the device's routes. -/
theorem a36_at (s : Fin 256) : a36 m ρ c (ix2 s 0) = route m ρ c s := by
  pointwise [a36, k0_pay2]
  rfl

/-- The tokens that the body reads are the device's tokens. -/
theorem a34_at (t : Fin 256) (d : Fin 128) : a34 m ρ c (ix2 t d) = feat m ρ c t d := by
  pointwise [a34, k0_pay1]
  rfl

/-- The first 128 rows of a message's weights is its first expert. -/
theorem wmat_low (d : Fin 128) (h : Fin 256) : wmatV (wrow m ρ c) (ix2 ⟨d.val, by omega⟩ h) = weight m ρ c 0 d h := by
  pointwise [wmatV, k0_pay4, k0_pay3]
  refine congrArg (wstg m ρ c) ?_
  rw [show (⟨d.val / 128, by omega⟩ : Fin 2) = 0 from Fin.ext (by show d.val / 128 = 0; omega),
    show (⟨d.val % 128, by omega⟩ : Fin 128) = d from Fin.ext (by show d.val % 128 = d.val; omega)]

/-- The last 128 rows of a message's weights is its second expert. -/
theorem wmat_high (d : Fin 128) (h : Fin 256) : wmatV (wrow m ρ c) (ix2 ⟨128 + d.val, by omega⟩ h) = weight m ρ c 1 d h := by
  pointwise [wmatV, k0_pay4, k0_pay3]
  refine congrArg (wstg m ρ c) ?_
  rw [show (⟨(128 + d.val) / 128, by omega⟩ : Fin 2) = 1 from Fin.ext (by show (128 + d.val) / 128 = 1; omega)]

/-- What device `o`'s message adds to a token: the product with whichever of its two experts the token chose. -/
theorem addend_at (o : Dev nD) (t h : Fin 256) :
    addend m ρ c o (ix2 t h)
      = (if route m ρ c t = BitVec.ofNat 32 (2 * o.val) then prod m ρ c o t h 0 else 0)
        + (if route m ρ c t = BitVec.ofNat 32 (2 * o.val + 1) then prod m ρ c o t h 1 else 0) := by
  unfold addend
  rw [contribV_at]
  rw [(by decide : ∀ o : Dev nD, Scalar.muli 2#32 (dw o) = BitVec.ofNat 32 (2 * o.val)) o,
    (by decide : ∀ o : Dev nD, Scalar.addi (BitVec.ofNat 32 (2 * o.val)) 1#32 = BitVec.ofNat 32 (2 * o.val + 1)) o]
  simp only [a36_at, a34_at, wmat_low, wmat_high]
  rfl

/-- What device `o`'s message adds to the prefix: its count of the expert, if it comes before `c`. -/
theorem tally_at (o : Dev nD) (e : Fin 32) :
    tally m ρ c o (ix2 0 e) = ((if o.val < c.val then chosen m ρ o e else 0 : ℕ) : EReal) := by
  unfold tally
  rw [histV_at, show Scalar.cmpi .slt (dw o) (dw c) = BitVec.ofBool (decide (o.val < c.val)) from
    slt_small _ _ (Nat.lt_trans o.isLt (by decide)) (Nat.lt_trans c.isLt (by decide))]
  by_cases h : o.val < c.val
  · simp only [h, decide_true, if_true]
    rfl
  · simp only [h, decide_false, if_false, Nat.cast_zero]
    rfl

/-- The sum in the body's order is the sum over the devices. -/
theorem acc_at (t h : Fin 256) : a751 m ρ c (ix2 t h) = ∑ o, addend m ρ c o (ix2 t h) := by
  rw [← sum_around (fun o => addend m ρ c o (ix2 t h)) c]
  simp only [a751_eq, a712_eq, a673_eq, a634_eq, a591_eq, a553_eq, a515_eq, a477_eq, a435_eq, a396_eq, a357_eq, a318_eq, a275_eq, a201_eq,
    a103_eq, addf_apply, Ideal.addf_def]

/-- The prefix is the count of the expert over the devices before `c`. -/
theorem prefix_at (e : Fin 32) : a752 m ρ c (ix2 0 e) = ((∑ o : Dev nD, if o.val < c.val then chosen m ρ o e else 0 : ℕ) : EReal) := by
  rw [← sum_around (fun o : Dev nD => if o.val < c.val then chosen m ρ o e else 0) c]
  simp only [a752_eq, a713_eq, a674_eq, a635_eq, a592_eq, a554_eq, a516_eq, a478_eq, a436_eq, a397_eq, a358_eq, a276_eq, a202_eq,
    addf_apply, Ideal.addf_def, tally_at]
  rw [if_neg (lt_irrefl c.val), show a115 m ρ c (ix2 0 e) = 0 from by pointwise [a115, k0_pay10]]
  simp only [Nat.cast_add, Nat.cast_zero]

/-- The kernel's result on device `c`, at token `t` and column `h`. -/
theorem outAt_at (t h : Fin 256) :
    outAt m ρ c (ix2 t h)
      = if (∑ e : Fin 32, if route m ρ c t = BitVec.ofNat 32 e.val
            then earlier m ρ c t e + ∑ o : Dev nD, (if o.val < c.val then chosen m ρ o e else 0) else 0) < 102
        then ∑ o : Dev nD, addend m ρ c o (ix2 t h) else 0 := by
  unfold outAt
  rw [out_at (a108 m ρ c) (a114 m ρ c) (a751 m ρ c) (a752 m ρ c) t h (route m ρ c t) (earlier m ρ c t)
    (fun e => ∑ o : Dev nD, (if o.val < c.val then chosen m ρ o e else 0)) ?_ ?_ ?_, acc_at]
  · intro e
    unfold a108
    rw [hot_at, a36_at]
  · intro e
    unfold a114
    rw [excl_at]
    simp only [a36_at]
    rfl
  · exact fun e => prefix_at m ρ c e

end Read

end Cert.Moe

end
-- ==== Proof.Whole.lean ====
/-
# 01_k — `Whole`: the reference's result at a token and a column
-/
module

public import proofs.«01_k».proof.Proof.Gen.ReferenceIdeal.Run
public import Idealize.ShloMosaic.Lib.Pointwise
public import Idealize.ShloMosaic.Lib.Routing.Ops
public import proofs.«01_k».proof.Proof.TermsAt

@[expose] public section

set_option maxRecDepth 16384

noncomputable section

namespace Cert.Moe.Whole

open Cert.ReferenceIdeal Cert.ReferenceIdeal.Gen
open Idealize.ShloMosaic

/-- Which expert each token chose, token by expert. -/
def picks (r : IVec S4096x1 32) : IVec S4096x32 1 :=
  cmpi .eq (broadcastInDim S4096x32 ![0, 1] bcast_S4096x1_S4096x32_0_1 r)
    (broadcastInDim S4096x32 ![0, 1] bcast_S1x32_S4096x32_0_1 (broadcastInDim S1x32 ![1] bcast_S32_S1x32_1 (iotaInDim S32 32 0)))

/-- The choices as integers. -/
def ones (r : IVec S4096x1 32) : IVec S4096x32 32 := extui 32 (picks r) natLt_1_32

/-- The running counts, each token's own choice included. -/
def runs (r : IVec S4096x1 32) : IVec S4096x32 32 :=
  Host.reduceWindow IntOp.addi ![4096, 1] ![1, 1] ![4095, 0] ![0, 0] (ones r) (broadcastInDim S_ ![] bcast_S_S_ (constantI S_ 32 0#32))
    reduceWindows_S4096x32_S4096x32_w4096s1p4095_0_w1s1p0_0 h_S_

/-- Each token's place among the tokens of its expert. -/
def place (r : IVec S4096x1 32) : IVec S4096 32 :=
  Host.reduce IntOp.addi (select (picks r) (subi (runs r) (ones r)) (broadcastInDim S4096x32 ![] bcast_S_S4096x32 (id (constantI S_ 32 0#32))))
    (constantI S_ 32 0#32) reducesTo_S4096x32_S4096_d1 h_S_

/-- Each token's product with the expert it chose. -/
def routed (x : FVec Ideal S4096x128 .bf16) (r : IVec S4096x1 32) (w : FVec Ideal S32x128x256 .bf16) : FVec Ideal S4096x256 .f32 :=
  Host.reduceAdd (select (broadcastInDim S4096x32x256 ![0, 1, 2] bcast_S4096x32x1_S4096x32x256_0_1_2 (broadcastInDim S4096x32x1 ![0, 1] bcast_S4096x32_S4096x32x1_0_1 (picks r)))
    (Host.dotGeneral dot_S4096x128_S32x128x256_S4096x32x256_1_1_0_02_n_n none (extf .f32 x bitsLt_bf16_f32) (extf .f32 w bitsLt_bf16_f32))
    (broadcastInDim S4096x32x256 ![] bcast_S_S4096x32x256 (id (constant S_ .f32 0x00000000#32)))) (constant S_ .f32 0x00000000#32) reducesTo_S4096x32x256_S4096x256_d1 h_S_

/-- The reference's result. -/
def result (x : FVec Ideal S4096x128 .bf16) (r : IVec S4096x1 32) (w : FVec Ideal S32x128x256 .bf16) : FVec Ideal S4096x256 .f32 :=
  select (broadcastInDim S4096x256 ![0, 1] bcast_S4096x1_S4096x256_0_1 (cmpi .slt (broadcastInDim S4096x1 ![0] bcast_S4096_S4096x1_0 (place r))
      (broadcastInDim S4096x1 ![] bcast_S_S4096x1 (constantI S_ 32 102#32))))
    (routed x r w) (broadcastInDim S4096x256 ![] bcast_S_S4096x256 (id (constant S_ .f32 0x00000000#32)))

/-- A pick is the comparison of the route with the expert's number. -/
theorem picks_at (r : IVec S4096x1 32) (t : Fin 4096) (e : Fin 32) : picks r (ix2 t e) = BitVec.ofBool (decide (r (ix2 t 0) = BitVec.ofNat 32 e.val)) := by
  pointwise [picks]
  rfl

/-- A selection by a decided bit is a case distinction. -/
theorem select_bit {α : Type} (p : Prop) [Decidable p] (a b : α) : Scalar.select (BitVec.ofBool (decide p)) a b = if p then a else b := by
  by_cases h : p <;> simp only [h, decide_true, decide_false, if_true, if_false] <;> rfl

/-- The routed products, at a token and a column. -/
theorem routed_at (x : FVec Ideal S4096x128 .bf16) (r : IVec S4096x1 32) (w : FVec Ideal S32x128x256 .bf16) (t : Fin 4096) (h : Fin 256) :
    routed x r w (ix2 t h) = ∑ e : Fin 32, if r (ix2 t 0) = BitVec.ofNat 32 e.val then ∑ d : Fin 128, x (ix2 t d) * w (ix3 e d h) else 0 := by
  pointwise [routed]
  simp only [picks_at, select_bit]
  refine Finset.sum_congr rfl fun e _ => ?_
  rw [show (id (constant (F := Ideal) S_ FTy.f32 0#32) ix0) = 0 from Ideal.ofBits_zero_f32]

/-! ### The running counts -/

/-- Token `n` exists and chose expert `e`. -/
def hit (r : IVec S4096x1 32) (e : Fin 32) (n : ℕ) : Prop := ∃ h : n < 4096, r (ix2 ⟨n, h⟩ 0) = BitVec.ofNat 32 e.val

instance (r : IVec S4096x1 32) (e : Fin 32) : DecidablePred (hit r e) := fun n => by unfold hit; infer_instance

/-- The choice of an expert, as a word. -/
theorem ones_at (r : IVec S4096x1 32) (t : Fin 4096) (e : Fin 32) :
    ones r (ix2 t e) = BitVec.ofNat 32 (if hit r e t.val then 1 else 0) := by
  pointwise [ones]
  rw [picks_at]
  have hh : hit r e t.val ↔ r (ix2 t 0) = BitVec.ofNat 32 e.val := ⟨fun ⟨_, h⟩ => h, fun h => ⟨t.isLt, h⟩⟩
  by_cases h : r (ix2 t 0) = BitVec.ofNat 32 e.val
  · rw [if_pos (hh.2 h), decide_eq_true h]; rfl
  · rw [if_neg (fun h' => h (hh.1 h')), decide_eq_false h]; rfl

/-- The window's position `n` is its row `n`. -/
theorem window_row (n : Fin (⟨2, ![4096, 1]⟩ : Shape).numel) :
    ((⟨2, ![4096, 1]⟩ : Shape).rowMajor.symm n 0).val = n.val ∧ ((⟨2, ![4096, 1]⟩ : Shape).rowMajor.symm n 1).val = 0 := by
  have h := congrArg Fin.val ((⟨2, ![4096, 1]⟩ : Shape).rowMajor.apply_symm_apply n)
  rw [Shape.rowMajor_val_two] at h
  have h1 : ((⟨2, ![4096, 1]⟩ : Shape).rowMajor.symm n 1).val < 1 := ((⟨2, ![4096, 1]⟩ : Shape).rowMajor.symm n 1).isLt
  have h2 : (![4096, 1] : Fin 2 → ℕ) 1 = 1 := rfl
  rw [h2] at h
  omega

/-- Row `n` of the window that ends at token `t` lies on the array just when it is not before the first token. -/
theorem inside_iff (t : Fin 4096) (e : Fin 32) (n : Fin (⟨2, ![4096, 1]⟩ : Shape).numel) :
    (∀ a : Fin 2, (![4095, 0] : Fin 2 → ℕ) a ≤ (ix2 t e a).val * (![1, 1] : Fin 2 → ℕ) a + ((⟨2, ![4096, 1]⟩ : Shape).rowMajor.symm n a).val
        ∧ (ix2 t e a).val * (![1, 1] : Fin 2 → ℕ) a + ((⟨2, ![4096, 1]⟩ : Shape).rowMajor.symm n a).val - (![4095, 0] : Fin 2 → ℕ) a < S4096x32.size a)
      ↔ 4095 ≤ t.val + n.val := by
  obtain ⟨hrow, hcol⟩ := window_row n
  have hn : n.val < 4096 := n.isLt
  have ht : t.val < 4096 := t.isLt
  have he : e.val < 32 := e.isLt
  rw [Fin.forall_fin_two, hrow, hcol]
  change ((4095 ≤ t.val * 1 + n.val ∧ t.val * 1 + n.val - 4095 < 4096) ∧ (0 ≤ e.val * 1 + 0 ∧ e.val * 1 + 0 - 0 < 32)) ↔ _
  omega

/-- The running count of token `t` is the number of tokens up to and including `t` that chose the expert. -/
theorem runs_at (r : IVec S4096x1 32) (t : Fin 4096) (e : Fin 32) :
    runs r (ix2 t e) = BitVec.ofNat 32 (Nat.count (hit r e) (t.val + 1)) := by
  let one : ℕ → ℕ := fun k => if hit r e k then 1 else 0
  let term : ℕ → ℕ := fun w => if 4095 ≤ t.val + w then one (t.val + w - 4095) else 0
  have hsum : ((List.range 4096).map term).sum = Nat.count (hit r e) (t.val + 1) :=
    (Routing.sum_window one 4095 t.val (by omega)).trans (Routing.sum_map_ite _ _)
  rw [← hsum]
  unfold runs Host.reduceWindow
  refine (Routing.foldl_addi_ofNat _ _ (fun n => term n.val) (fun n _ => ?_) _ 0 rfl).trans (by rw [Nat.zero_add, Routing.map_finRange_val _ term]; rfl)
  obtain ⟨hrow, hcol⟩ := window_row n
  by_cases hle : 4095 ≤ t.val + n.val
  · have hn : t.val + n.val - 4095 < 4096 := by have : n.val < 4096 := n.isLt; omega
    rw [show term n.val = one (t.val + n.val - 4095) from if_pos hle]
    refine (dif_pos ((inside_iff t e n).2 hle)).trans ((congrArg (ones r) (funext fun a => Fin.ext ?_)).trans (ones_at r ⟨_, hn⟩ e))
    fin_cases a
    · exact (congrArg (fun k => t.val * 1 + k - 4095) hrow).trans (by rw [Nat.mul_one]; rfl)
    · exact (congrArg (fun k => e.val * 1 + k - 0) hcol).trans (by rw [Nat.mul_one]; rfl)
  · rw [show term n.val = 0 from if_neg hle]
    exact dif_neg (mt (inside_iff t e n).1 hle)

/-- The running count without the token's own choice is the number of earlier tokens of the expert. -/
theorem before_at (r : IVec S4096x1 32) (t : Fin 4096) (e : Fin 32) :
    IntOp.subi (runs r (ix2 t e)) (ones r (ix2 t e)) = BitVec.ofNat 32 (Nat.count (hit r e) t.val) := by
  rw [runs_at, ones_at, Nat.count_succ]
  show BitVec.ofNat 32 _ - BitVec.ofNat 32 _ = _
  rw [BitVec.ofNat_add, BitVec.add_sub_cancel]

/-- A fold of word additions over naturals is the word of their sum. -/
theorem fold_addi {ι : Type} [DecidableEq ι] (S : Finset ι) (f : ι → ℕ) :
    Finset.fold IntOp.addi (0#32) (fun i => BitVec.ofNat 32 (f i)) S = BitVec.ofNat 32 (∑ i ∈ S, f i) := by
  induction S using Finset.induction_on with
  | empty => rfl
  | insert a S ha ih => rw [Finset.fold_insert ha, ih, Finset.sum_insert ha]; exact (BitVec.ofNat_add _ _).symm

/-- A token's place: how many earlier tokens chose its expert. -/
def placeN (r : IVec S4096x1 32) (t : Fin 4096) : ℕ :=
  ∑ e : Fin 32, if r (ix2 t 0) = BitVec.ofNat 32 e.val then Nat.count (hit r e) t.val else 0

/-- A token's place, as a word. -/
theorem place_at (r : IVec S4096x1 32) (t : Fin 4096) : place r (ix1 t) = BitVec.ofNat 32 (placeN r t) := by
  pointwise [place]
  simp only [picks_at, select_bit, before_at]
  rw [show (id (constantI S_ 32 0#32) ix0) = BitVec.ofNat 32 0 from rfl]
  simp only [← apply_ite (BitVec.ofNat 32)]
  exact fold_addi Finset.univ _

/-- A place is a small number. -/
theorem placeN_lt (r : IVec S4096x1 32) (t : Fin 4096) : placeN r t < 2 ^ 31 := by
  refine lt_of_le_of_lt (Finset.sum_le_sum (g := fun _ => 4096) fun e _ => ?_) (by simp)
  split
  · exact le_trans (Nat.count_le _) (by omega)
  · omega

/-- The reference's result at token `t` and column `h`. -/
theorem result_at (x : FVec Ideal S4096x128 .bf16) (r : IVec S4096x1 32) (w : FVec Ideal S32x128x256 .bf16) (t : Fin 4096) (h : Fin 256) :
    result x r w (ix2 t h) = if placeN r t < 102
      then ∑ e : Fin 32, if r (ix2 t 0) = BitVec.ofNat 32 e.val then ∑ d : Fin 128, x (ix2 t d) * w (ix3 e d h) else 0 else 0 := by
  pointwise [result]
  rw [place_at, show (102#32 : BitVec 32) = BitVec.ofNat 32 102 from rfl, slt_small _ _ (placeN_lt r t) (by norm_num), select_bit, routed_at]
  rw [show (id (constant (F := Ideal) S_ FTy.f32 0#32) ix0) = 0 from Ideal.ofBits_zero_f32]

end Cert.Moe.Whole

end
-- ==== Proof.Match.lean ====
/-
# 01_k — `Match`: the devices' results are the blocks of the reference's result
-/
module

public import proofs.«01_k».proof.Defs
public import proofs.«01_k».proof.Proof.Region
public import proofs.«01_k».proof.Proof.Result
public import proofs.«01_k».proof.Proof.Whole
public import Idealize.ShloMosaic.Lib.Layout
public import Idealize.ShloMosaic.Lib.Pipeline.ValueKit

@[expose] public section

set_option maxRecDepth 16384

noncomputable section

namespace Cert.Moe

open Cert.KernelIdeal Cert.KernelIdeal.Gen
open Idealize.ShloMosaic Idealize.SL.Sem
open Idealize.ShloMosaic.TcCoe

/-! ### The staged blocks are the whole arrays -/

section Arrays

variable {F : FTy → Type} [FloatOps F]
variable (m : (ℓ : Loc nD τ sig) → Buf (Elt F) ℓ) (ρ : Dev nD → PrngReg) (c : Dev nD)

/-- The output array ends holding what the body left. -/
theorem finalA_out : finalA m ρ c (4 : Fin 5) = outAt m ρ c := by
  refine (dats m ρ 0 c).arrAt_eq_of_after_last (4 : Fin 5) t0_0 (by decide +kernel) _ fun j => ?_
  blk_simp
  rfl

/-- The staged tokens are the device's tokens. -/
theorem xstg_at (i : S256x128.Idx) : xstg m ρ c i = m ((c : Thread nD τ).loc main_arg0) i := by
  unfold xstg
  blk_simp
  exact congrArg (m ((c : Thread nD τ).loc main_arg0)) (funext fun a => Fin.ext (by
    have h0 : ∀ a, win0_0.index (0 : Fin 1) a = 0 := by decide +kernel
    simp [h0]))

/-- The staged routes are the device's routes. -/
theorem rstg_at (i : S256x1.Idx) : rstg m ρ c i = m ((c : Thread nD τ).loc main_arg2) i := by
  unfold rstg
  blk_simp
  exact congrArg (m ((c : Thread nD τ).loc main_arg2)) (funext fun a => Fin.ext (by
    have h0 : ∀ a, win0_2.index (0 : Fin 1) a = 0 := by decide +kernel
    simp [h0]))

/-- The staged experts are the device's experts. -/
theorem wstg_at (i : S2x128x256.Idx) : wstg m ρ c i = m ((c : Thread nD τ).loc main_arg3) i := by
  unfold wstg
  blk_simp
  exact congrArg (m ((c : Thread nD τ).loc main_arg3)) (funext fun a => Fin.ext (by
    have h0 : ∀ a, win0_3.index (0 : Fin 1) a = 0 := by decide +kernel
    simp [h0]))

end Arrays

/-! ### Counting and summing by devices -/

/-- The count up to the start of block `n` is the sum of the blocks' counts. -/
theorem count_blocks (p : ℕ → Prop) [DecidablePred p] (n : ℕ) :
    Nat.count p (256 * n) = ∑ o ∈ Finset.range n, Nat.count (fun k => p (256 * o + k)) 256 := by
  induction n with
  | zero => simp
  | succ n ih => rw [Nat.mul_succ, Nat.count_add, ih, Finset.sum_range_succ]

/-- A sum over the devices below `c`. -/
theorem sum_below (f : ℕ → ℕ) (c : Fin 16) :
    (∑ o : Fin 16, if o.val < c.val then f o.val else 0) = ∑ o ∈ Finset.range c.val, f o := by
  rw [Fin.sum_univ_eq_sum_range (fun o => if o < c.val then f o else 0) 16, ← Finset.sum_filter]
  refine Finset.sum_congr (Finset.ext fun o => ?_) fun _ _ => rfl
  rw [Finset.mem_filter, Finset.mem_range, Finset.mem_range]
  have := c.isLt
  omega

/-- The count among a block's first `t` entries, taken over the block. -/
theorem count_first (p : ℕ → Prop) [DecidablePred p] (t : Fin 256) :
    (Finset.univ.filter fun s : Fin 256 => s.val < t.val ∧ p s.val).card = Nat.count p t.val := by
  rw [Routing.card_filter_fin 256 (fun n => n < t.val ∧ p n), Nat.count_eq_card_filter_range, Nat.count_eq_card_filter_range]
  congr 1
  ext n
  rw [Finset.mem_filter, Finset.mem_filter, Finset.mem_range, Finset.mem_range]
  have := t.isLt
  constructor
  · exact fun h => h.2
  · exact fun h => ⟨by omega, h⟩

/-- A sum taken two at a time. -/
theorem sum_pairs (f : ℕ → EReal) (n : ℕ) : ∑ e ∈ Finset.range (2 * n), f e = ∑ o ∈ Finset.range n, (f (2 * o) + f (2 * o + 1)) := by
  induction n with
  | zero => simp
  | succ n ih => rw [Nat.mul_succ, Finset.sum_range_succ, Finset.sum_range_succ, Finset.sum_range_succ, ih, add_assoc]

/-! ### The two results -/

section Both

variable (m : (ℓ : Loc nD τ sig) → Buf (Elt Ideal) ℓ) (ρ : Dev nD → PrngReg)
variable (X : FVec Ideal Cert.ReferenceIdeal.S4096x128 .bf16) (R : IVec Cert.ReferenceIdeal.S4096x1 32) (W : FVec Ideal Cert.ReferenceIdeal.S32x128x256 .bf16)

/-- Each device holds its block of the tokens, of the routes and of the experts. -/
def Held : Prop := ∀ c : Dev nD,
  (∀ (t : Fin 256) (d : Fin 128), feat m ρ c t d = X (ix2 ⟨256 * c.val + t.val, by have : c.val < 16 := c.isLt; omega⟩ d))
  ∧ (∀ t : Fin 256, route m ρ c t = R (ix2 ⟨256 * c.val + t.val, by have : c.val < 16 := c.isLt; omega⟩ 0))
  ∧ (∀ (i : Fin 2) (d : Fin 128) (h : Fin 256), weight m ρ c i d h = W (ix3 ⟨2 * c.val + i.val, by have : c.val < 16 := c.isLt; omega⟩ d h))

variable {m ρ X R W}

/-- A token of device `c` chose expert `e` on the device just when it did so in the whole. -/
theorem hit_route (H : Held m ρ X R W) (c : Dev nD) (e : Fin 32) (s : Fin 256) :
    route m ρ c s = BitVec.ofNat 32 e.val ↔ Whole.hit R e (256 * c.val + s.val) := by
  rw [(H c).2.1 s]
  exact ⟨fun h => ⟨_, h⟩, fun ⟨_, h⟩ => h⟩

/-- How many tokens of device `c` chose an expert, counted in the whole. -/
theorem chosen_eq (H : Held m ρ X R W) (c : Dev nD) (e : Fin 32) :
    chosen m ρ c e = Nat.count (fun k => Whole.hit R e (256 * c.val + k)) 256 := by
  unfold chosen
  rw [← Routing.card_filter_fin]
  exact congrArg Finset.card (Finset.filter_congr fun s _ => hit_route H c e s)

/-- How many tokens of device `c` before one chose an expert, counted in the whole. -/
theorem earlier_eq (H : Held m ρ X R W) (c : Dev nD) (t : Fin 256) (e : Fin 32) :
    earlier m ρ c t e = Nat.count (fun k => Whole.hit R e (256 * c.val + k)) t.val := by
  rw [← count_first]
  exact congrArg Finset.card (Finset.filter_congr fun s _ => and_congr_right fun _ => hit_route H c e s)

/-- The tokens before one in the whole are those before it on its device and all of the devices before. -/
theorem count_split (H : Held m ρ X R W) (c : Dev nD) (t : Fin 256) (e : Fin 32) :
    Nat.count (Whole.hit R e) (256 * c.val + t.val) = earlier m ρ c t e + ∑ o : Dev nD, (if o.val < c.val then chosen m ρ o e else 0) := by
  rw [Nat.count_add, count_blocks, earlier_eq H, add_comm]
  simp only [chosen_eq H]
  rw [sum_below (fun o => Nat.count (fun k => Whole.hit R e (256 * o + k)) 256) c]

/-- The devices' contributions to a token are the products with the experts it chose. -/
theorem routed_split (H : Held m ρ X R W) (c : Dev nD) (t h : Fin 256) (g : Fin 4096) (hg : g.val = 256 * c.val + t.val) :
    (∑ o : Dev nD, addend m ρ c o (ix2 t h))
      = ∑ e : Fin 32, if R (ix2 g 0) = BitVec.ofNat 32 e.val then ∑ d : Fin 128, X (ix2 g d) * W (ix3 e d h) else 0 := by
  obtain ⟨g, hlt⟩ := g
  obtain rfl : g = 256 * c.val + t.val := hg
  let f : ℕ → EReal := fun n => if hn : n < 32 then
    (if R (ix2 ⟨256 * c.val + t.val, hlt⟩ 0) = BitVec.ofNat 32 n then ∑ d : Fin 128, X (ix2 ⟨256 * c.val + t.val, hlt⟩ d) * W (ix3 ⟨n, hn⟩ d h) else 0) else 0
  have hR : (∑ e : Fin 32, if R (ix2 ⟨256 * c.val + t.val, hlt⟩ 0) = BitVec.ofNat 32 e.val
      then ∑ d : Fin 128, X (ix2 ⟨256 * c.val + t.val, hlt⟩ d) * W (ix3 e d h) else 0) = ∑ e : Fin 32, f e.val :=
    Finset.sum_congr rfl fun e _ => by simp only [f, dif_pos e.isLt]
  rw [hR, Fin.sum_univ_eq_sum_range f 32, sum_pairs f 16, ← Fin.sum_univ_eq_sum_range (fun o => f (2 * o) + f (2 * o + 1)) 16]
  refine Finset.sum_congr rfl fun o _ => ?_
  have ho : o.val < 16 := o.isLt
  rw [addend_at, (H c).2.1 t]
  unfold prod
  simp only [(H c).1, (H o).2.2]
  refine congrArg₂ (· + ·) ?_ ?_
  · rw [show f (2 * o.val) = _ from dif_pos (show 2 * o.val < 32 by omega)]
    rfl
  · rw [show f (2 * o.val + 1) = _ from dif_pos (show 2 * o.val + 1 < 32 by omega)]
    rfl

/-- The kernel's result on device `c` is the reference's at the same token. -/
theorem results_agree (H : Held m ρ X R W) (c : Dev nD) (t h : Fin 256) (g : Fin 4096) (hg : g.val = 256 * c.val + t.val) :
    outAt m ρ c (ix2 t h) = Whole.result X R W (ix2 g h) := by
  rw [outAt_at, Whole.result_at, routed_split H c t h g hg]
  refine if_congr (iff_of_eq (congrArg (· < 102) (Finset.sum_congr rfl fun e _ => ?_))) rfl rfl
  rw [← count_split H c t e, ← hg, (H c).2.1 t]
  obtain ⟨g, hlt⟩ := g
  obtain rfl : g = 256 * c.val + t.val := hg
  rfl

end Both

/-! ### The claim -/

section Claim

open Idealize.ShloMosaic.Layout

variable (m : (ℓ : Loc nD τ sig) → Buf (Elt Ideal) ℓ) (ρ : Dev nD → PrngReg)
variable (X : FVec Ideal Cert.ReferenceIdeal.S4096x128 .bf16) (R : IVec Cert.ReferenceIdeal.S4096x1 32) (W : FVec Ideal Cert.ReferenceIdeal.S32x128x256 .bf16)

/-- Arrays cut along their first axis over the devices are held in that sense. -/
theorem held_of_blocks
    (hX : ∀ c : Dev nD, m ((c : Thread nD τ).loc main_arg0) = Layout.block ⟨2, ![256, 128]⟩ ⟨2, ![4096, 128]⟩ 0 16 c X)
    (hR : ∀ c : Dev nD, m ((c : Thread nD τ).loc main_arg2) = Layout.block ⟨2, ![256, 1]⟩ ⟨2, ![4096, 1]⟩ 0 16 c R)
    (hW : ∀ c : Dev nD, m ((c : Thread nD τ).loc main_arg3) = Layout.block ⟨3, ![2, 128, 256]⟩ ⟨3, ![32, 128, 256]⟩ 0 16 c W) :
    Held m ρ X R W := by
  refine fun c => ⟨fun t d => ?_, fun t => ?_, fun i d h => ?_⟩
  · refine (xstg_at m ρ c _).trans ((congrFun (hX c) _).trans (congrArg X (funext fun a => Fin.ext ?_)))
    fin_cases a
    · exact congrArg (· + t.val) (Nat.mul_comm c.val 256)
    · rfl
  · refine (rstg_at m ρ c _).trans ((congrFun (hR c) _).trans (congrArg R (funext fun a => Fin.ext ?_)))
    fin_cases a
    · exact congrArg (· + t.val) (Nat.mul_comm c.val 256)
    · rfl
  · refine (wstg_at m ρ c _).trans ((congrFun (hW c) _).trans (congrArg W (funext fun a => Fin.ext ?_)))
    fin_cases a
    · exact congrArg (· + i.val) (Nat.mul_comm c.val 2)
    · rfl
    · rfl

variable {m ρ X R W}

/-- Each device ends with its block of the reference's result. -/
theorem out_block (H : Held m ρ X R W) (c : Dev nD) :
    outAt m ρ c = Layout.block ⟨2, ![256, 256]⟩ ⟨2, ![4096, 256]⟩ 0 16 c (Whole.result X R W) := by
  have hc : c.val < 16 := c.isLt
  have key : ∀ t h : Fin 256, outAt m ρ c (ix2 t h)
      = (Layout.block ⟨2, ![256, 256]⟩ ⟨2, ![4096, 256]⟩ 0 16 c (Whole.result X R W) : _ → EReal) (ix2 t h) := by
    intro t h
    rw [results_agree H c t h ⟨256 * c.val + t.val, by omega⟩ rfl]
    refine congrArg (Whole.result X R W) (funext fun a => Fin.ext ?_)
    fin_cases a
    · exact congrArg (· + t.val) (Nat.mul_comm 256 c.val)
    · rfl
  funext j
  have hj : j = ix2 (j 0) (j 1) := by
    funext a
    fin_cases a <;> rfl
  rw [hj]
  exact key (j 0) (j 1)

end Claim

/-- On the extended reals, the sixteen devices end with the blocks of what the reference computes from the whole arrays. -/
theorem algebraic : Cert.algebraic_KernelIdeal_ReferenceIdeal := by
  intro m ρ m' ρ' _ hagree
  have H := held_of_blocks m ρ _ _ _ (fun c => (hagree c).1) (fun c => (hagree c).2.2.1) (fun c => (hagree c).2.2.2)
  refine ⟨_, (θ_run Cert.KernelIdeal.defs _ _).mono
      (fun r (h : (∀ (c : Dev Cert.KernelIdeal.nD) (w : Fin Cert.KernelIdeal.cfg0.W), _) ∧ _) c =>
        ⟨(h.1 c 4).trans ((finalA_out m ρ c).trans (out_block H c)),
          (h.1 c 0).trans (finalA_in m ρ c 0 rfl), (h.1 c 1).trans (finalA_in m ρ c 1 rfl),
          (h.1 c 2).trans (finalA_in m ρ c 2 rfl), (h.1 c 3).trans (finalA_in m ρ c 3 rfl)⟩)
      (run_main (F := Ideal) m ρ), ?_⟩
  exact (θ_run Cert.ReferenceIdeal.defs _ _).mono (fun _ h => h 0) (Cert.ReferenceIdeal.Value.run (F := Ideal) m' ρ')

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Match
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.frame_kernel, Cert.Moe.frame_ideal, Cert.Moe.frame_reference, trivial, Cert.Moe.algebraic⟩

end Cert.Proof

end
